-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S8x2x128 Cert.KernelIdeal.S8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v4)) (v5 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_v15_2) = v2 c
          ∧ r.2.mem ((c.tc : Thread Cert.ReferenceIdeal.nD Cert.ReferenceIdeal.τ).loc Cert.ReferenceIdeal.main_v15_3) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_v8) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x6144 : Shape := ⟨3, ![1, 256, 6144]⟩
abbrev S16384x6144 : Shape := ⟨2, ![16384, 6144]⟩
abbrev S24 : Shape := ⟨1, ![24]⟩
abbrev S256x6144 : Shape := ⟨2, ![256, 6144]⟩
abbrev S1x24 : Shape := ⟨2, ![1, 24]⟩
abbrev S256x16384 : Shape := ⟨2, ![256, 16384]⟩
abbrev S16384x3072 : Shape := ⟨2, ![16384, 3072]⟩
abbrev S6144x8192 : Shape := ⟨2, ![6144, 8192]⟩
abbrev S1024x384 : Shape := ⟨2, ![1024, 384]⟩
abbrev S1x1 : Shape := ⟨2, ![1, 1]⟩
abbrev S8x128 : Shape := ⟨2, ![8, 128]⟩
abbrev S512x6144 : Shape := ⟨2, ![512, 6144]⟩
abbrev S256x512 : Shape := ⟨2, ![256, 512]⟩
abbrev S512x3072 : Shape := ⟨2, ![512, 3072]⟩
abbrev S6144x256 : Shape := ⟨2, ![6144, 256]⟩
abbrev S32x384 : Shape := ⟨2, ![32, 384]⟩
abbrev S512x128 : Shape := ⟨2, ![512, 128]⟩
abbrev S64x128 : Shape := ⟨2, ![64, 128]⟩
abbrev S1 : Shape := ⟨1, ![1]⟩
abbrev S32x128 : Shape := ⟨2, ![32, 128]⟩
abbrev S16x256 : Shape := ⟨2, ![16, 256]⟩
abbrev S8x256 : Shape := ⟨2, ![8, 256]⟩
abbrev S256x128 : Shape := ⟨2, ![256, 128]⟩
abbrev S256x2x128 : Shape := ⟨3, ![256, 2, 128]⟩
abbrev S8x2x128 : Shape := ⟨3, ![8, 2, 128]⟩
abbrev S8x1x128 : Shape := ⟨3, ![8, 1, 128]⟩
abbrev S16x128 : Shape := ⟨2, ![16, 128]⟩
abbrev S8x128x1 : Shape := ⟨3, ![8, 128, 1]⟩
abbrev S256x256 : Shape := ⟨2, ![256, 256]⟩
abbrev S128x2x256 : Shape := ⟨3, ![128, 2, 256]⟩
abbrev S128x1x256 : Shape := ⟨3, ![128, 1, 256]⟩
abbrev S128x256 : Shape := ⟨2, ![128, 256]⟩
abbrev S128x128 : Shape := ⟨2, ![128, 128]⟩
abbrev S32x2x128 : Shape := ⟨3, ![32, 2, 128]⟩
abbrev S1x128 : Shape := ⟨2, ![1, 128]⟩
abbrev S32x1x128 : Shape := ⟨3, ![32, 1, 128]⟩
abbrev S32x128x1 : Shape := ⟨3, ![32, 128, 1]⟩
abbrev S1x256x16384 : Shape := ⟨3, ![1, 256, 16384]⟩
abbrev S_ : Shape := ⟨0, ![]⟩

abbrev nBuf : Space → Nat
  | .hbm => 16
  | .vmem => 18
  | .smem => 0
  | _ => 0

abbrev bufTy : (tb : Table) → Fin (tcTables nBuf tb) → BufTy
  | .hbm, ⟨0, _⟩ => ⟨S1x256x6144, .bf16⟩
  | .hbm, ⟨1, _⟩ => ⟨S16384x6144, .bf16⟩
  | .hbm, ⟨2, _⟩ => ⟨S24, .f32⟩
  | .hbm, ⟨3, _⟩ => ⟨S256x6144, .bf16⟩
  | .hbm, ⟨4, _⟩ => ⟨S1x24, .f32⟩
  | .hbm, ⟨5, _⟩ => ⟨S256x16384, .bf16⟩
  | .hbm, ⟨6, _⟩ => ⟨S16384x3072, .i8⟩
  | .hbm, ⟨7, _⟩ => ⟨S6144x8192, .i8⟩
  | .hbm, ⟨8, _⟩ => ⟨S1024x384, .fp8e4m3⟩
  | .hbm, ⟨9, _⟩ => ⟨S1x1, .f32⟩
  | .hbm, ⟨10, _⟩ => ⟨S8x128, .f32⟩
  | .hbm, ⟨11, _⟩ => ⟨S1x256x16384, .bf16⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S1, .f32⟩
  | .local _ .vmem, ⟨0, _⟩ => ⟨S1x24, .f32⟩
  | .local _ .vmem, ⟨1, _⟩ => ⟨S256x6144, .bf16⟩
  | .local _ .vmem, ⟨2, _⟩ => ⟨S512x6144, .bf16⟩
  | .local _ .vmem, ⟨3, _⟩ => ⟨S512x6144, .bf16⟩
  | .local _ .vmem, ⟨4, _⟩ => ⟨S256x512, .bf16⟩
  | .local _ .vmem, ⟨5, _⟩ => ⟨S256x512, .bf16⟩
  | .local _ .vmem, ⟨6, _⟩ => ⟨S512x3072, .i8⟩
  | .local _ .vmem, ⟨7, _⟩ => ⟨S512x3072, .i8⟩
  | .local _ .vmem, ⟨8, _⟩ => ⟨S6144x256, .i8⟩
  | .local _ .vmem, ⟨9, _⟩ => ⟨S6144x256, .i8⟩
  | .local _ .vmem, ⟨10, _⟩ => ⟨S32x384, .fp8e4m3⟩
  | .local _ .vmem, ⟨11, _⟩ => ⟨S32x384, .fp8e4m3⟩
  | .local _ .vmem, ⟨12, _⟩ => ⟨S1x1, .f32⟩
  | .local _ .vmem, ⟨13, _⟩ => ⟨S8x128, .f32⟩
  | .local _ .vmem, ⟨14, _⟩ => ⟨S512x128, .bf16⟩
  | .local _ .vmem, ⟨15, _⟩ => ⟨S64x128, .f32⟩
  | .local _ .vmem, ⟨16, _⟩ => ⟨S64x128, .f32⟩
  | .local _ .vmem, ⟨17, _⟩ => ⟨S512x6144, .bf16⟩
  | _, _ => ⟨S1x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32_6 : BitVec 32 := 0#32
  let c24_i32 : BitVec 32 := 24#32
  let v12 : BitVec 32 := Scalar.addi c0_i32_6 c24_i32
  let c1_i32 : BitVec 32 := 1#32
  ⟨c0_i32_6, v12, c1_i32⟩
def k0_mult1 (k0_t1 : Fin k0_t1_loop.trips) : BitVec 32 :=
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  v28
def k0_off1 (k0_t1 : Fin k0_t1_loop.trips) : Fin 2 → Nat :=
  let c0_19 : Index := 0#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v30 : Index := Scalar.indexCast v29
  ![0, v30.toNat]
def k0_off2 (k0_t1 : Fin k0_t1_loop.trips) : Fin 2 → Nat :=
  let c16 : Index := 16#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v44 : Index := Scalar.indexCast v29
  ![16, v44.toNat]
def k0_off3 (k0_t1 : Fin k0_t1_loop.trips) : Fin 2 → Nat :=
  let c32 : Index := 32#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v58 : Index := Scalar.indexCast v29
  ![32, v58.toNat]
def k0_off4 (k0_t1 : Fin k0_t1_loop.trips) : Fin 2 → Nat :=
  let c48 : Index := 48#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v72 : Index := Scalar.indexCast v29
  ![48, v72.toNat]
def k0_off5 (k0_t1 : Fin k0_t1_loop.trips) : Fin 2 → Nat :=
  let c64 : Index := 64#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v86 : Index := Scalar.indexCast v29
  ![64, v86.toNat]
def k0_off6 (k0_t1 : Fin k0_t1_loop.trips) : Fin 2 → Nat :=
  let c80 : Index := 80#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v100 : Index := Scalar.indexCast v29
  ![80, v100.toNat]
def k0_off7 (k0_t1 : Fin k0_t1_loop.trips) : Fin 2 → Nat :=
  let c96 : Index := 96#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v114 : Index := Scalar.indexCast v29
  ![96, v114.toNat]
def k0_off8 (k0_t1 : Fin k0_t1_loop.trips) : Fin 2 → Nat :=
  let c112 : Index := 112#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v128 : Index := Scalar.indexCast v29
  ![112, v128.toNat]
def k0_off9 (k0_t1 : Fin k0_t1_loop.trips) : Fin 2 → Nat :=
  let c128_44 : Index := 128#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v142 : Index := Scalar.indexCast v29
  ![128, v142.toNat]
def k0_off10 (k0_t1 : Fin k0_t1_loop.trips) : Fin 2 → Nat :=
  let c144 : Index := 144#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v156 : Index := Scalar.indexCast v29
  ![144, v156.toNat]
def k0_off11 (k0_t1 : Fin k0_t1_loop.trips) : Fin 2 → Nat :=
  let c160 : Index := 160#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v170 : Index := Scalar.indexCast v29
  ![160, v170.toNat]
def k0_off12 (k0_t1 : Fin k0_t1_loop.trips) : Fin 2 → Nat :=
  let c176 : Index := 176#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v184 : Index := Scalar.indexCast v29
  ![176, v184.toNat]
def k0_off13 (k0_t1 : Fin k0_t1_loop.trips) : Fin 2 → Nat :=
  let c192 : Index := 192#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v198 : Index := Scalar.indexCast v29
  ![192, v198.toNat]
def k0_off14 (k0_t1 : Fin k0_t1_loop.trips) : Fin 2 → Nat :=
  let c208 : Index := 208#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v212 : Index := Scalar.indexCast v29
  ![208, v212.toNat]
def k0_off15 (k0_t1 : Fin k0_t1_loop.trips) : Fin 2 → Nat :=
  let c224 : Index := 224#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v226 : Index := Scalar.indexCast v29
  ![224, v226.toNat]
def k0_off16 (k0_t1 : Fin k0_t1_loop.trips) : Fin 2 → Nat :=
  let c240 : Index := 240#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v240 : Index := Scalar.indexCast v29
  ![240, v240.toNat]
def k0_off17 (k0_t1 : Fin k0_t1_loop.trips) : Fin 2 → Nat :=
  let c256_69 : Index := 256#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v254 : Index := Scalar.indexCast v29
  ![256, v254.toNat]
def k0_off18 (k0_t1 : Fin k0_t1_loop.trips) : Fin 2 → Nat :=
  let c272 : Index := 272#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v268 : Index := Scalar.indexCast v29
  ![272, v268.toNat]
def k0_off19 (k0_t1 : Fin k0_t1_loop.trips) : Fin 2 → Nat :=
  let c288 : Index := 288#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v282 : Index := Scalar.indexCast v29
  ![288, v282.toNat]
def k0_off20 (k0_t1 : Fin k0_t1_loop.trips) : Fin 2 → Nat :=
  let c304 : Index := 304#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v296 : Index := Scalar.indexCast v29
  ![304, v296.toNat]
def k0_off21 (k0_t1 : Fin k0_t1_loop.trips) : Fin 2 → Nat :=
  let c320 : Index := 320#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v310 : Index := Scalar.indexCast v29
  ![320, v310.toNat]
def k0_off22 (k0_t1 : Fin k0_t1_loop.trips) : Fin 2 → Nat :=
  let c336 : Index := 336#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v324 : Index := Scalar.indexCast v29
  ![336, v324.toNat]
def k0_off23 (k0_t1 : Fin k0_t1_loop.trips) : Fin 2 → Nat :=
  let c352 : Index := 352#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v338 : Index := Scalar.indexCast v29
  ![352, v338.toNat]
def k0_off24 (k0_t1 : Fin k0_t1_loop.trips) : Fin 2 → Nat :=
  let c368 : Index := 368#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v352 : Index := Scalar.indexCast v29
  ![368, v352.toNat]
def k0_off25 (k0_t1 : Fin k0_t1_loop.trips) : Fin 2 → Nat :=
  let c384 : Index := 384#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v366 : Index := Scalar.indexCast v29
  ![384, v366.toNat]
def k0_off26 (k0_t1 : Fin k0_t1_loop.trips) : Fin 2 → Nat :=
  let c400 : Index := 400#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v380 : Index := Scalar.indexCast v29
  ![400, v380.toNat]
def k0_off27 (k0_t1 : Fin k0_t1_loop.trips) : Fin 2 → Nat :=
  let c416 : Index := 416#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v394 : Index := Scalar.indexCast v29
  ![416, v394.toNat]
def k0_off28 (k0_t1 : Fin k0_t1_loop.trips) : Fin 2 → Nat :=
  let c432 : Index := 432#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v408 : Index := Scalar.indexCast v29
  ![432, v408.toNat]
def k0_off29 (k0_t1 : Fin k0_t1_loop.trips) : Fin 2 → Nat :=
  let c448 : Index := 448#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v422 : Index := Scalar.indexCast v29
  ![448, v422.toNat]
def k0_off30 (k0_t1 : Fin k0_t1_loop.trips) : Fin 2 → Nat :=
  let c464 : Index := 464#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v436 : Index := Scalar.indexCast v29
  ![464, v436.toNat]
def k0_off31 (k0_t1 : Fin k0_t1_loop.trips) : Fin 2 → Nat :=
  let c480 : Index := 480#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v450 : Index := Scalar.indexCast v29
  ![480, v450.toNat]
def k0_off32 (k0_t1 : Fin k0_t1_loop.trips) : Fin 2 → Nat :=
  let c496 : Index := 496#32
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v464 : Index := Scalar.indexCast v29
  ![496, v464.toNat]
def k0_off33 (k0_t1 : Fin k0_t1_loop.trips) : Fin 2 → Nat :=
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v1478 : Index := Scalar.indexCast v29
  let c0_445 : Index := 0#32
  ![v1478.toNat, 0]
def k0_mult2 (k0_t1 : Fin k0_t1_loop.trips) : BitVec 32 :=
  let c0_i32_6 : BitVec 32 := 0#32
  let c1_i32 : BitVec 32 := 1#32
  let arg14 : BitVec 32 := Scf.iv c0_i32_6 c1_i32 k0_t1
  let c128_i32_448 : BitVec 32 := 128#32
  let v1494 : BitVec 32 := Scalar.muli arg14 c128_i32_448
  v1494
def k0_off34 (k0_t1 : Fin k0_t1_loop.trips) : Fin 2 → Nat :=
  let c0_449 : Index := 0#32
  let c0_i32_6 : BitVec 32 := 0#32
  let c1_i32 : BitVec 32 := 1#32
  let arg14 : BitVec 32 := Scf.iv c0_i32_6 c1_i32 k0_t1
  let c128_i32_448 : BitVec 32 := 128#32
  let v1494 : BitVec 32 := Scalar.muli arg14 c128_i32_448
  let v1495 : BitVec 32 := v1494
  let v1496 : Index := Scalar.indexCast v1495
  ![0, v1496.toNat]
def k0_off35 (k0_t1 : Fin k0_t1_loop.trips) : Fin 2 → Nat :=
  let c0_i32_6 : BitVec 32 := 0#32
  let c1_i32 : BitVec 32 := 1#32
  let arg14 : BitVec 32 := Scf.iv c0_i32_6 c1_i32 k0_t1
  let c256_i32 : BitVec 32 := 256#32
  let v28 : BitVec 32 := Scalar.muli arg14 c256_i32
  let v29 : BitVec 32 := v28
  let v1976 : Index := Scalar.indexCast v29
  let c128_647 : Index := 128#32
  ![v1976.toNat, 128]
def k0_mult3 (k0_t1 : Fin k0_t1_loop.trips) : BitVec 32 :=
  let c0_i32_6 : BitVec 32 := 0#32
  let c1_i32 : BitVec 32 := 1#32
  let arg14 : BitVec 32 := Scf.iv c0_i32_6 c1_i32 k0_t1
  let c128_i32_651 : BitVec 32 := 128#32
  let v1992 : BitVec 32 := Scalar.muli arg14 c128_i32_651
  v1992
def k0_off36 (k0_t1 : Fin k0_t1_loop.trips) : Fin 2 → Nat :=
  let c256_652 : Index := 256#32
  let c0_i32_6 : BitVec 32 := 0#32
  let c1_i32 : BitVec 32 := 1#32
  let arg14 : BitVec 32 := Scf.iv c0_i32_6 c1_i32 k0_t1
  let c128_i32_651 : BitVec 32 := 128#32
  let v1992 : BitVec 32 := Scalar.muli arg14 c128_i32_651
  let v1993 : BitVec 32 := v1992
  let v1994 : Index := Scalar.indexCast v1993
  ![256, v1994.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6144x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x384 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F]
-- ==== ReferenceIdeal.lean ====
abbrev S1x256x6144 : Shape := ⟨3, ![1, 256, 6144]⟩
abbrev S16384x6144 : Shape := ⟨2, ![16384, 6144]⟩
abbrev S24 : Shape := ⟨1, ![24]⟩
abbrev S_ : Shape := ⟨0, ![]⟩
abbrev S1024x16x384x16 : Shape := ⟨4, ![1024, 16, 384, 16]⟩
abbrev S1024x384 : Shape := ⟨2, ![1024, 384]⟩
abbrev S1 : Shape := ⟨1, ![1]⟩
abbrev S1x1 : Shape := ⟨2, ![1, 1]⟩
abbrev S1x256x16384 : Shape := ⟨3, ![1, 256, 16384]⟩
abbrev S16384x3072 : Shape := ⟨2, ![16384, 3072]⟩
abbrev S6144x8192 : Shape := ⟨2, ![6144, 8192]⟩
abbrev S1024x1x384x1 : Shape := ⟨4, ![1024, 1, 384, 1]⟩
abbrev S16384x3072x2 : Shape := ⟨3, ![16384, 3072, 2]⟩
abbrev S16384x3072x1 : Shape := ⟨3, ![16384, 3072, 1]⟩
abbrev S8192x2x6144 : Shape := ⟨3, ![8192, 2, 6144]⟩
abbrev S8192x1x6144 : Shape := ⟨3, ![8192, 1, 6144]⟩
abbrev S8192x6144 : Shape := ⟨2, ![8192, 6144]⟩
abbrev S256x6144 : Shape := ⟨2, ![256, 6144]⟩
abbrev S256x16384 : Shape := ⟨2, ![256, 16384]⟩

abbrev nBuf : Space → Nat
  | .hbm => 28
  | .vmem => 8
  | .smem => 0
  | _ => 0

abbrev bufTy : (tb : Table) → Fin (tcTables nBuf tb) → BufTy
  | .hbm, ⟨0, _⟩ => ⟨S1x256x6144, .bf16⟩
  | .hbm, ⟨1, _⟩ => ⟨S16384x6144, .bf16⟩
  | .hbm, ⟨2, _⟩ => ⟨S24, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16384x6144, .f32⟩
  | .hbm, ⟨8, _⟩ => ⟨S16384x6144, .f32⟩
  | .hbm, ⟨9, _⟩ => ⟨S1024x16x384x16, .f32⟩
  | .hbm, ⟨10, _⟩ => ⟨S_, .f32⟩
  | .hbm, ⟨11, _⟩ => ⟨S1024x384, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S_, .f32⟩
  | .hbm, ⟨21, _⟩ => ⟨S1024x384, .f32⟩
  | .hbm, ⟨22, _⟩ => ⟨S1024x384, .f32⟩
  | .hbm, ⟨23, _⟩ => ⟨S1x1, .f32⟩
  | .hbm, ⟨24, _⟩ => ⟨S1x256x16384, .bf16⟩
  | .hbm, ⟨25, _⟩ => ⟨S16384x3072, .i8⟩
  | .hbm, ⟨26, _⟩ => ⟨S6144x8192, .i8⟩
  | .hbm, ⟨27, _⟩ => ⟨S1024x384, .fp8e4m3⟩
  | .local _ .vmem, ⟨0, _⟩ => ⟨S1x1, .f32⟩
  | .local _ .vmem, ⟨1, _⟩ => ⟨S1024x384, .f32⟩
  | .local _ .vmem, ⟨2, _⟩ => ⟨S1x256x6144, .bf16⟩
  | .local _ .vmem, ⟨3, _⟩ => ⟨S16384x6144, .bf16⟩
  | .local _ .vmem, ⟨4, _⟩ => ⟨S1x256x16384, .bf16⟩
  | .local _ .vmem, ⟨5, _⟩ => ⟨S16384x3072, .i8⟩
  | .local _ .vmem, ⟨6, _⟩ => ⟨S6144x8192, .i8⟩
  | .local _ .vmem, ⟨7, _⟩ => ⟨S1024x384, .fp8e4m3⟩
  | _, _ => ⟨S1x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x3072 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x8192 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.S.FrameKernel.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Frame
public import proofs.«01_k».proof.Proof.Gen.Kernel.Points
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))

/-- Memref `M`'s elements held in full on core `c`, its buffer at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 1000000 in
/-- One trip of the chunk loop: from the weight block at `f3` and the buffers the trip writes at anything, the trip runs
    to its end with the weight block as it was and the others at something. -/
theorem trip (c : Dev nD) (i : grid0.Coords) (arg1 : Memref sig .tc .vmem S1x24 .f32) (harg1 : arg1.IsWhole) (arg2 : Memref sig .tc .vmem S256x6144 .bf16) (harg2 : arg2.IsWhole) (arg3 : Memref sig .tc .vmem S512x6144 .bf16) (harg3 : arg3.IsWhole) (arg4 : Memref sig .tc .vmem S256x512 .bf16) (harg4 : arg4.IsWhole) (arg5 : Memref sig .tc .vmem S512x3072 .i8) (harg5 : arg5.IsWhole) (arg6 : Memref sig .tc .vmem S6144x256 .i8) (harg6 : arg6.IsWhole) (arg7 : Memref sig .tc .vmem S32x384 .fp8e4m3) (harg7 : arg7.IsWhole) (arg8 : Memref sig .tc .vmem S1x1 .f32) (harg8 : arg8.IsWhole) (arg9 : Memref sig .tc .vmem S8x128 .f32) (harg9 : arg9.IsWhole) (arg10 : Memref sig .tc .vmem S512x128 .bf16) (harg10 : arg10.IsWhole) (arg11 : Memref sig .tc .vmem S64x128 .f32) (harg11 : arg11.IsWhole) (arg12 : Memref sig .tc .vmem S64x128 .f32) (harg12 : arg12.IsWhole) (arg13 : Memref sig .tc .vmem S512x6144 .bf16) (harg13 : arg13.IsWhole) (v0 : Vec F S1x24 .f32) (v7 : IVec S8x128 32) (k : Fin k0_t1_loop.trips) (acc : FVec F S32x128 .f32 × FVec F S32x128 .f32 × FVec F S32x128 .f32)
    (f3 : Bf (F := F) c arg3) :
    iprop(pt c arg3 f3 ∗ (∃ f, pt (F := F) c arg5 f) ∗ (∃ f, pt (F := F) c arg6 f) ∗ (∃ f, pt (F := F) c arg9 f) ∗ (∃ f, pt (F := F) c arg10 f) ∗ (∃ f, pt (F := F) c arg11 f) ∗ (∃ f, pt (F := F) c arg12 f) ∗ (∃ f, pt (F := F) c arg13 f))
    ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 v0 v7 k acc)
      (fun _ => iprop(pt c arg3 f3 ∗ (∃ f, pt (F := F) c arg5 f) ∗ (∃ f, pt (F := F) c arg6 f) ∗ (∃ f, pt (F := F) c arg9 f) ∗ (∃ f, pt (F := F) c arg10 f) ∗ (∃ f, pt (F := F) c arg11 f) ∗ (∃ f, pt (F := F) c arg12 f) ∗ (∃ f, pt (F := F) c arg13 f))) := by
  iintro ⟨H3, ⟨%f5, H5⟩, ⟨%f6, H6⟩, ⟨%f9, H9⟩, ⟨%f10, H10⟩, ⟨%f11, H11⟩, ⟨%f12, H12⟩, ⟨%f13, H13⟩⟩
  unfold k0_t1_body
  sl_exec_parts
  sl_step
  isplitl [H3]; · iexact H3
  isplitl [H5]; · iexists _; iexact H5
  isplitl [H6]; · iexists _; iexact H6
  isplitl [H9]; · iexists _; iexact H9
  isplitl [H10]; · iexists _; iexact H10
  isplitl [H11]; · iexists _; iexact H11
  isplitl [H12]; · iexists _; iexact H12
  iexists _; iexact H13

/-- The chunk loop's invariant: the weight block at what the loop finds, every buffer a trip writes at something. -/
@[sl_loop] noncomputable def loopInv (c : Dev nD) (i : grid0.Coords) (arg1 : Memref sig .tc .vmem S1x24 .f32) (harg1 : arg1.IsWhole) (arg2 : Memref sig .tc .vmem S256x6144 .bf16) (harg2 : arg2.IsWhole) (arg3 : Memref sig .tc .vmem S512x6144 .bf16) (harg3 : arg3.IsWhole) (arg4 : Memref sig .tc .vmem S256x512 .bf16) (harg4 : arg4.IsWhole) (arg5 : Memref sig .tc .vmem S512x3072 .i8) (harg5 : arg5.IsWhole) (arg6 : Memref sig .tc .vmem S6144x256 .i8) (harg6 : arg6.IsWhole) (arg7 : Memref sig .tc .vmem S32x384 .fp8e4m3) (harg7 : arg7.IsWhole) (arg8 : Memref sig .tc .vmem S1x1 .f32) (harg8 : arg8.IsWhole) (arg9 : Memref sig .tc .vmem S8x128 .f32) (harg9 : arg9.IsWhole) (arg10 : Memref sig .tc .vmem S512x128 .bf16) (harg10 : arg10.IsWhole) (arg11 : Memref sig .tc .vmem S64x128 .f32) (harg11 : arg11.IsWhole) (arg12 : Memref sig .tc .vmem S64x128 .f32) (harg12 : arg12.IsWhole) (arg13 : Memref sig .tc .vmem S512x6144 .bf16) (harg13 : arg13.IsWhole) (v0 : Vec F S1x24 .f32) (v7 : IVec S8x128 32) (init : FVec F S32x128 .f32 × FVec F S32x128 .f32 × FVec F S32x128 .f32)
    (f3 : Bf (F := F) c arg3) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v0 v7 init where
  inv := fun _ _ => iprop(pt c arg3 f3 ∗ (∃ f, pt (F := F) c arg5 f) ∗ (∃ f, pt (F := F) c arg6 f) ∗ (∃ f, pt (F := F) c arg9 f) ∗ (∃ f, pt (F := F) c arg10 f) ∗ (∃ f, pt (F := F) c arg11 f) ∗ (∃ f, pt (F := F) c arg12 f) ∗ (∃ f, pt (F := F) c arg13 f))
  step := fun k acc => trip c i arg1 harg1 arg2 harg2 arg3 harg3 arg4 harg4 arg5 harg5 arg6 harg6 arg7 harg7 arg8 harg8 arg9 harg9 arg10 harg10 arg11 harg11 arg12 harg12 arg13 harg13 v0 v7 k acc f3

/-- The kernel's body at any grid point: from its operands' staging memrefs held (the three inputs at `x1`, `x2`, `x3`) and
    its four scratch buffers at anything, it runs to its end, the inputs as they were, all else at something. -/
theorem bodyRun (c : Dev nD) (i : grid0.Coords) (arg1 : Memref sig .tc .vmem S1x24 .f32) (harg1 : arg1.IsWhole) (arg2 : Memref sig .tc .vmem S256x6144 .bf16) (harg2 : arg2.IsWhole) (arg3 : Memref sig .tc .vmem S512x6144 .bf16) (harg3 : arg3.IsWhole) (arg4 : Memref sig .tc .vmem S256x512 .bf16) (harg4 : arg4.IsWhole) (arg5 : Memref sig .tc .vmem S512x3072 .i8) (harg5 : arg5.IsWhole) (arg6 : Memref sig .tc .vmem S6144x256 .i8) (harg6 : arg6.IsWhole) (arg7 : Memref sig .tc .vmem S32x384 .fp8e4m3) (harg7 : arg7.IsWhole) (arg8 : Memref sig .tc .vmem S1x1 .f32) (harg8 : arg8.IsWhole) (arg9 : Memref sig .tc .vmem S8x128 .f32) (harg9 : arg9.IsWhole) (arg10 : Memref sig .tc .vmem S512x128 .bf16) (harg10 : arg10.IsWhole) (arg11 : Memref sig .tc .vmem S64x128 .f32) (harg11 : arg11.IsWhole) (arg12 : Memref sig .tc .vmem S64x128 .f32) (harg12 : arg12.IsWhole) (arg13 : Memref sig .tc .vmem S512x6144 .bf16) (harg13 : arg13.IsWhole)
    (x1 : Vec F S1x24 .f32) (x2 : Vec F S256x6144 .bf16) (x3 : Vec F S512x6144 .bf16) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
    ⊢ wp frame (wpE (defs₀ (F := F)) Variants.none c none) Set.univ (cc0_nvfp4_quant_matmul i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  unfold cc0_nvfp4_quant_matmul
  sl_exec_parts
  sl_step
  iapply Hk
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

/-- Every window past the three inputs is an output, whose contents the frame does not state. -/
def forgets0 : Fin cfg0.W → Bool := fun w => decide (3 ≤ w.val)

variable (m : (ℓ : Loc nD τ sig) → Buf (Elt F) ℓ) (ρ : Dev nD → PrngReg)

/-- The pipeline's proof data on core `c`: the arrays as the region finds them, each input's staging buffer at its block,
    the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨w + 3, h⟩ => Pipeline.Dat.unnamed (cfg := cfg0) ⟨w + 3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the region lends the body at every point: its four scratch buffers, each at something, and the generator register. -/
theorem PhiA0_eq (c : Dev nD) : (Pipeline.ΦA spec0 c : sProp 𝕄) =
    iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA
  rw [scopedRest0_eq]
  simp only [owns_whole]
  try rfl

set_option maxHeartbeats 800000 in
/-- The body at point `t`, on the windows one by one. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X))
    ⊢ wp frame (wpE (defs₀ (F := F)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X))) := by
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl]
  rw [PhiA0_eq]
  iintro ⟨⟨⟨HS0, HS1, HS2, HS3⟩, Hg⟩, Ho, ⟨%d0, H0⟩, ⟨%d1, H1⟩, ⟨%d2, H2⟩, H3, H4, H5, H6, H7, H8⟩
  iapply bodyRun (F := F) c (grid0.coords t) _ _ _ _ _ _ _ _ _ _ _ _ _ _ _ _ _ _ _ _ _ _ _ _ _ _ (iblk m c 0 t) (iblk m c 1 t) (iblk m c 2 t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The buffers the lines after the region write: of these the run says nothing. -/
def T0 : Finset (Ref sig .tc) := {main_v3, main_v4, main_cst, main_v5, main_v6}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
set_option maxHeartbeats 800000 in
/-- Every execution ends, every counter at zero, with every input array as the region found it and every buffer the later
    lines do not write and no window stages at its contents on entry. -/
theorem run_main_quiescent : θ_run defs (onTc (τ := τ) (main (F := F))) (s₀ m ρ) (fun r =>
    (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- THE FRAME: every execution ends with the three arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(h.1 c).2 main_arg0 (Finset.mem_sdiff.mpr ⟨Pipeline.mem_restRefs_of main_arg0 (by decide) (by decide), by decide⟩) |>.trans (V_main_arg0 m c),
      (Pipeline.RDat.FramePostR.arr_in h.1 c 2 rfl).trans ((A_eq m c 2).trans (V_main_arg1 m c)),
      (h.1 c).2 main_arg2 (Finset.mem_sdiff.mpr ⟨Pipeline.mem_restRefs_of main_arg2 (by decide) (by decide), by decide⟩) |>.trans (V_main_arg2 m c)⟩, h.2⟩)
    (run_main_quiescent m ρ)

end Cert.Proof.Kernel

end
-- ==== Proof.S.TripKernelIdeal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.KernelIdeal.Points
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))

/-- Memref `M`'s elements held in full on core `c`, its buffer at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 1000000 in
/-- One trip of the chunk loop: from the weight block at `f3` and the buffers the trip writes at anything, the trip runs
    to its end with the weight block as it was and the others at something. -/
theorem trip (c : Dev nD) (i : grid0.Coords) (arg1 : Memref sig .tc .vmem S1x24 .f32) (harg1 : arg1.IsWhole) (arg2 : Memref sig .tc .vmem S256x6144 .bf16) (harg2 : arg2.IsWhole) (arg3 : Memref sig .tc .vmem S512x6144 .bf16) (harg3 : arg3.IsWhole) (arg4 : Memref sig .tc .vmem S256x512 .bf16) (harg4 : arg4.IsWhole) (arg5 : Memref sig .tc .vmem S512x3072 .i8) (harg5 : arg5.IsWhole) (arg6 : Memref sig .tc .vmem S6144x256 .i8) (harg6 : arg6.IsWhole) (arg7 : Memref sig .tc .vmem S32x384 .fp8e4m3) (harg7 : arg7.IsWhole) (arg8 : Memref sig .tc .vmem S1x1 .f32) (harg8 : arg8.IsWhole) (arg9 : Memref sig .tc .vmem S8x128 .f32) (harg9 : arg9.IsWhole) (arg10 : Memref sig .tc .vmem S512x128 .bf16) (harg10 : arg10.IsWhole) (arg11 : Memref sig .tc .vmem S64x128 .f32) (harg11 : arg11.IsWhole) (arg12 : Memref sig .tc .vmem S64x128 .f32) (harg12 : arg12.IsWhole) (arg13 : Memref sig .tc .vmem S512x6144 .bf16) (harg13 : arg13.IsWhole) (v0 : Vec F S1x24 .f32) (v7 : IVec S8x128 32) (k : Fin k0_t1_loop.trips) (acc : FVec F S32x128 .f32 × FVec F S32x128 .f32 × FVec F S32x128 .f32)
    (f3 : Bf (F := F) c arg3) :
    iprop(pt c arg3 f3 ∗ (∃ f, pt (F := F) c arg5 f) ∗ (∃ f, pt (F := F) c arg6 f) ∗ (∃ f, pt (F := F) c arg9 f) ∗ (∃ f, pt (F := F) c arg10 f) ∗ (∃ f, pt (F := F) c arg11 f) ∗ (∃ f, pt (F := F) c arg12 f) ∗ (∃ f, pt (F := F) c arg13 f))
    ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 v0 v7 k acc)
      (fun _ => iprop(pt c arg3 f3 ∗ (∃ f, pt (F := F) c arg5 f) ∗ (∃ f, pt (F := F) c arg6 f) ∗ (∃ f, pt (F := F) c arg9 f) ∗ (∃ f, pt (F := F) c arg10 f) ∗ (∃ f, pt (F := F) c arg11 f) ∗ (∃ f, pt (F := F) c arg12 f) ∗ (∃ f, pt (F := F) c arg13 f))) := by
  iintro ⟨H3, ⟨%f5, H5⟩, ⟨%f6, H6⟩, ⟨%f9, H9⟩, ⟨%f10, H10⟩, ⟨%f11, H11⟩, ⟨%f12, H12⟩, ⟨%f13, H13⟩⟩
  unfold k0_t1_body
  sl_exec_parts
  sl_step
  isplitl [H3]; · iexact H3
  isplitl [H5]; · iexists _; iexact H5
  isplitl [H6]; · iexists _; iexact H6
  isplitl [H9]; · iexists _; iexact H9
  isplitl [H10]; · iexists _; iexact H10
  isplitl [H11]; · iexists _; iexact H11
  isplitl [H12]; · iexists _; iexact H12
  iexists _; iexact H13

end Cert.Proof.KernelIdeal

end
-- ==== Proof.S.FrameKernelIdeal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.KernelIdeal.Points
public import proofs.«01_k».proof.Proof.S.TripKernelIdeal
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The chunk loop's invariant: the weight block at what the loop finds, every buffer a trip writes at something. -/
@[sl_loop] noncomputable def loopInv (c : Dev nD) (i : grid0.Coords) (arg1 : Memref sig .tc .vmem S1x24 .f32) (harg1 : arg1.IsWhole) (arg2 : Memref sig .tc .vmem S256x6144 .bf16) (harg2 : arg2.IsWhole) (arg3 : Memref sig .tc .vmem S512x6144 .bf16) (harg3 : arg3.IsWhole) (arg4 : Memref sig .tc .vmem S256x512 .bf16) (harg4 : arg4.IsWhole) (arg5 : Memref sig .tc .vmem S512x3072 .i8) (harg5 : arg5.IsWhole) (arg6 : Memref sig .tc .vmem S6144x256 .i8) (harg6 : arg6.IsWhole) (arg7 : Memref sig .tc .vmem S32x384 .fp8e4m3) (harg7 : arg7.IsWhole) (arg8 : Memref sig .tc .vmem S1x1 .f32) (harg8 : arg8.IsWhole) (arg9 : Memref sig .tc .vmem S8x128 .f32) (harg9 : arg9.IsWhole) (arg10 : Memref sig .tc .vmem S512x128 .bf16) (harg10 : arg10.IsWhole) (arg11 : Memref sig .tc .vmem S64x128 .f32) (harg11 : arg11.IsWhole) (arg12 : Memref sig .tc .vmem S64x128 .f32) (harg12 : arg12.IsWhole) (arg13 : Memref sig .tc .vmem S512x6144 .bf16) (harg13 : arg13.IsWhole) (v0 : Vec F S1x24 .f32) (v7 : IVec S8x128 32) (init : FVec F S32x128 .f32 × FVec F S32x128 .f32 × FVec F S32x128 .f32)
    (f3 : Bf (F := F) c arg3) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v0 v7 init where
  inv := fun _ _ => iprop(pt c arg3 f3 ∗ (∃ f, pt (F := F) c arg5 f) ∗ (∃ f, pt (F := F) c arg6 f) ∗ (∃ f, pt (F := F) c arg9 f) ∗ (∃ f, pt (F := F) c arg10 f) ∗ (∃ f, pt (F := F) c arg11 f) ∗ (∃ f, pt (F := F) c arg12 f) ∗ (∃ f, pt (F := F) c arg13 f))
  step := fun k acc => trip c i arg1 harg1 arg2 harg2 arg3 harg3 arg4 harg4 arg5 harg5 arg6 harg6 arg7 harg7 arg8 harg8 arg9 harg9 arg10 harg10 arg11 harg11 arg12 harg12 arg13 harg13 v0 v7 k acc f3

/-- The kernel's body at any grid point: from its operands' staging memrefs held (the three inputs at `x1`, `x2`, `x3`) and
    its four scratch buffers at anything, it runs to its end, the inputs as they were, all else at something. -/
theorem bodyRun (c : Dev nD) (i : grid0.Coords) (arg1 : Memref sig .tc .vmem S1x24 .f32) (harg1 : arg1.IsWhole) (arg2 : Memref sig .tc .vmem S256x6144 .bf16) (harg2 : arg2.IsWhole) (arg3 : Memref sig .tc .vmem S512x6144 .bf16) (harg3 : arg3.IsWhole) (arg4 : Memref sig .tc .vmem S256x512 .bf16) (harg4 : arg4.IsWhole) (arg5 : Memref sig .tc .vmem S512x3072 .i8) (harg5 : arg5.IsWhole) (arg6 : Memref sig .tc .vmem S6144x256 .i8) (harg6 : arg6.IsWhole) (arg7 : Memref sig .tc .vmem S32x384 .fp8e4m3) (harg7 : arg7.IsWhole) (arg8 : Memref sig .tc .vmem S1x1 .f32) (harg8 : arg8.IsWhole) (arg9 : Memref sig .tc .vmem S8x128 .f32) (harg9 : arg9.IsWhole) (arg10 : Memref sig .tc .vmem S512x128 .bf16) (harg10 : arg10.IsWhole) (arg11 : Memref sig .tc .vmem S64x128 .f32) (harg11 : arg11.IsWhole) (arg12 : Memref sig .tc .vmem S64x128 .f32) (harg12 : arg12.IsWhole) (arg13 : Memref sig .tc .vmem S512x6144 .bf16) (harg13 : arg13.IsWhole)
    (x1 : Vec F S1x24 .f32) (x2 : Vec F S256x6144 .bf16) (x3 : Vec F S512x6144 .bf16) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
    ⊢ wp frame (wpE (defs₀ (F := F)) Variants.none c none) Set.univ (cc0_nvfp4_quant_matmul i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  unfold cc0_nvfp4_quant_matmul
  sl_exec_parts
  sl_step
  iapply Hk
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

/-- Every window past the three inputs is an output, whose contents the frame does not state. -/
def forgets0 : Fin cfg0.W → Bool := fun w => decide (3 ≤ w.val)

variable (m : (ℓ : Loc nD τ sig) → Buf (Elt F) ℓ) (ρ : Dev nD → PrngReg)

/-- The pipeline's proof data on core `c`: the arrays as the region finds them, each input's staging buffer at its block,
    the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨w + 3, h⟩ => Pipeline.Dat.unnamed (cfg := cfg0) ⟨w + 3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the region lends the body at every point: its four scratch buffers, each at something, and the generator register. -/
theorem PhiA0_eq (c : Dev nD) : (Pipeline.ΦA spec0 c : sProp 𝕄) =
    iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA
  rw [scopedRest0_eq]
  simp only [owns_whole]
  try rfl

set_option maxHeartbeats 800000 in
/-- The body at point `t`, on the windows one by one. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X))
    ⊢ wp frame (wpE (defs₀ (F := F)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X))) := by
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl]
  rw [PhiA0_eq]
  iintro ⟨⟨⟨HS0, HS1, HS2, HS3⟩, Hg⟩, Ho, ⟨%d0, H0⟩, ⟨%d1, H1⟩, ⟨%d2, H2⟩, H3, H4, H5, H6, H7, H8⟩
  iapply bodyRun (F := F) c (grid0.coords t) _ _ _ _ _ _ _ _ _ _ _ _ _ _ _ _ _ _ _ _ _ _ _ _ _ _ (iblk m c 0 t) (iblk m c 1 t) (iblk m c 2 t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The buffers the lines after the region write: of these the run says nothing. -/
def T0 : Finset (Ref sig .tc) := {main_v3, main_v4, main_cst, main_v5, main_v6}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
set_option maxHeartbeats 800000 in
/-- Every execution ends, every counter at zero, with every input array as the region found it and every buffer the later
    lines do not write and no window stages at its contents on entry. -/
theorem run_main_quiescent : θ_run defs (onTc (τ := τ) (main (F := F))) (s₀ m ρ) (fun r =>
    (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- THE FRAME: every execution ends with the three arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(h.1 c).2 main_arg0 (Finset.mem_sdiff.mpr ⟨Pipeline.mem_restRefs_of main_arg0 (by decide) (by decide), by decide⟩) |>.trans (V_main_arg0 m c),
      (Pipeline.RDat.FramePostR.arr_in h.1 c 2 rfl).trans ((A_eq m c 2).trans (V_main_arg1 m c)),
      (h.1 c).2 main_arg2 (Finset.mem_sdiff.mpr ⟨Pipeline.mem_restRefs_of main_arg2 (by decide) (by decide), by decide⟩) |>.trans (V_main_arg2 m c)⟩, h.2⟩)
    (run_main_quiescent m ρ)

end Cert.Proof.KernelIdeal

end
-- ==== Proof.S.TripExact.lean ====
module

public import proofs.«01_k».proof.Proof.S.TripKernelIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One trip of the chunk loop, with the contents it leaves: each written buffer as the list of pieces the trip stores, the
    carried triple as the trip's selects. -/
theorem tripExact (c : Dev nD) (i : grid0.Coords) (arg1 : Memref sig .tc .vmem S1x24 .f32) (harg1 : arg1.IsWhole) (arg2 : Memref sig .tc .vmem S256x6144 .bf16) (harg2 : arg2.IsWhole) (arg3 : Memref sig .tc .vmem S512x6144 .bf16) (harg3 : arg3.IsWhole) (arg4 : Memref sig .tc .vmem S256x512 .bf16) (harg4 : arg4.IsWhole) (arg5 : Memref sig .tc .vmem S512x3072 .i8) (harg5 : arg5.IsWhole) (arg6 : Memref sig .tc .vmem S6144x256 .i8) (harg6 : arg6.IsWhole) (arg7 : Memref sig .tc .vmem S32x384 .fp8e4m3) (harg7 : arg7.IsWhole) (arg8 : Memref sig .tc .vmem S1x1 .f32) (harg8 : arg8.IsWhole) (arg9 : Memref sig .tc .vmem S8x128 .f32) (harg9 : arg9.IsWhole) (arg10 : Memref sig .tc .vmem S512x128 .bf16) (harg10 : arg10.IsWhole) (arg11 : Memref sig .tc .vmem S64x128 .f32) (harg11 : arg11.IsWhole) (arg12 : Memref sig .tc .vmem S64x128 .f32) (harg12 : arg12.IsWhole) (arg13 : Memref sig .tc .vmem S512x6144 .bf16) (harg13 : arg13.IsWhole) (v0 : Vec F S1x24 .f32) (v7 : IVec S8x128 32) (k : Fin k0_t1_loop.trips) (acc : FVec F S32x128 .f32 × FVec F S32x128 .f32 × FVec F S32x128 .f32)
    (f3 : Bf (F := F) c arg3) (f5 : Bf (F := F) c arg5) (f6 : Bf (F := F) c arg6) (f9 : Bf (F := F) c arg9) (f13 : Bf (F := F) c arg13) :
    iprop(pt c arg3 f3 ∗ pt c arg5 f5 ∗ pt c arg6 f6 ∗ pt c arg9 f9 ∗ (∃ f, pt (F := F) c arg10 f) ∗ (∃ f, pt (F := F) c arg11 f) ∗ (∃ f, pt (F := F) c arg12 f) ∗ pt c arg13 f13)
    ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 v0 v7 k acc)
      (fun r => iprop(⌜r = (trip.sl.v2284 c arg3 arg10 harg10 arg12 v0 v7 k acc f3, trip.sl.v2346 c arg3 arg10 harg10 arg12 v0 v7 k acc f3,
            k0_pay383 acc.2.2 (trip.sl.arg14 k) (trip.sl.r_138 c arg3 arg10 harg10 arg12 v0 k f3) (trip.sl.r_141 c arg3 arg10 harg10 arg12 v0 v7 k f3) (trip.sl.r_142 v7 k))⌝
        ∗ pt c arg3 f3 ∗ pt c arg5 (arg5.view.writes (Elt F) f5 (trip.sl.H5_2 c arg3 arg10 harg10 arg11 v0 k f3))
        ∗ pt c arg6 (arg6.view.writes (Elt F) f6 (trip.sl.H6_2 c arg3 arg10 harg10 arg11 v0 k f3))
        ∗ pt c arg9 (arg9.view.writes (Elt F) f9 (trip.sl.H9_1 c arg3 arg9 arg10 harg10 k f3 f9))
        ∗ (∃ f, pt (F := F) c arg10 f) ∗ (∃ f, pt (F := F) c arg11 f) ∗ (∃ f, pt (F := F) c arg12 f)
        ∗ pt c arg13 (arg13.view.writes (Elt F) f13 (trip.sl.H13_32 c arg3 arg10 harg10 arg11 arg12 v0 k f3)))) := by
  iintro ⟨H3, H5, H6, H9, ⟨%f10, H10⟩, ⟨%f11, H11⟩, ⟨%f12, H12⟩, H13⟩
  unfold k0_t1_body
  sl_exec_parts
  sl_step
  isplitr
  swap
  · isplitl [H3]; · iexact H3
    isplitl [H5]; · iexact H5
    isplitl [H6]; · iexact H6
    isplitl [H9]; · iexact H9
    isplitl [H10]; · iexists _; iexact H10
    isplitl [H11]; · iexists _; iexact H11
    isplitl [H12]; · iexists _; iexact H12
    iexact H13
  ipureintro
  rfl

end Cert.Proof.KernelIdeal

end
-- ==== Proof.S.KLoop.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.KernelIdeal.Points
public import proofs.«01_k».proof.Proof.S.TripExact
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.KernelIdealValue

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The codes' buffer before trip `k`. -/
def b5 (c : Dev nD) (arg3 : Memref sig .tc .vmem S512x6144 .bf16) (arg5 : Memref sig .tc .vmem S512x3072 .i8) (arg10 : Memref sig .tc .vmem S512x128 .bf16) (harg10 : arg10.IsWhole) (arg11 : Memref sig .tc .vmem S64x128 .f32) (v0 : Vec F S1x24 .f32) (f3 : Bf (F := F) c arg3) (g : Bf (F := F) c arg5) : ℕ → Bf (F := F) c arg5
  | 0 => g
  | k + 1 => if h : k < k0_t1_loop.trips then arg5.view.writes (Elt F) (b5 c arg3 arg5 arg10 harg10 arg11 v0 f3 g k) (trip.sl.H5_2 c arg3 arg10 harg10 arg11 v0 ⟨k, h⟩ f3) else b5 c arg3 arg5 arg10 harg10 arg11 v0 f3 g k

/-- The transposed codes' buffer before trip `k`. -/
def b6 (c : Dev nD) (arg3 : Memref sig .tc .vmem S512x6144 .bf16) (arg6 : Memref sig .tc .vmem S6144x256 .i8) (arg10 : Memref sig .tc .vmem S512x128 .bf16) (harg10 : arg10.IsWhole) (arg11 : Memref sig .tc .vmem S64x128 .f32) (v0 : Vec F S1x24 .f32) (f3 : Bf (F := F) c arg3) (g : Bf (F := F) c arg6) : ℕ → Bf (F := F) c arg6
  | 0 => g
  | k + 1 => if h : k < k0_t1_loop.trips then arg6.view.writes (Elt F) (b6 c arg3 arg6 arg10 harg10 arg11 v0 f3 g k) (trip.sl.H6_2 c arg3 arg10 harg10 arg11 v0 ⟨k, h⟩ f3) else b6 c arg3 arg6 arg10 harg10 arg11 v0 f3 g k

/-- The running maxima's buffer before trip `k`. -/
def b9 (c : Dev nD) (arg3 : Memref sig .tc .vmem S512x6144 .bf16) (arg9 : Memref sig .tc .vmem S8x128 .f32) (arg10 : Memref sig .tc .vmem S512x128 .bf16) (harg10 : arg10.IsWhole) (f3 : Bf (F := F) c arg3) (g : Bf (F := F) c arg9) : ℕ → Bf (F := F) c arg9
  | 0 => g
  | k + 1 => if h : k < k0_t1_loop.trips then arg9.view.writes (Elt F) (b9 c arg3 arg9 arg10 harg10 f3 g k) (trip.sl.H9_1 c arg3 arg9 arg10 harg10 ⟨k, h⟩ f3 (b9 c arg3 arg9 arg10 harg10 f3 g k)) else b9 c arg3 arg9 arg10 harg10 f3 g k

/-- The decoded weights' buffer before trip `k`. -/
def b13 (c : Dev nD) (arg3 : Memref sig .tc .vmem S512x6144 .bf16) (arg10 : Memref sig .tc .vmem S512x128 .bf16) (harg10 : arg10.IsWhole) (arg11 : Memref sig .tc .vmem S64x128 .f32) (arg12 : Memref sig .tc .vmem S64x128 .f32) (arg13 : Memref sig .tc .vmem S512x6144 .bf16) (v0 : Vec F S1x24 .f32) (f3 : Bf (F := F) c arg3) (g : Bf (F := F) c arg13) : ℕ → Bf (F := F) c arg13
  | 0 => g
  | k + 1 => if h : k < k0_t1_loop.trips then arg13.view.writes (Elt F) (b13 c arg3 arg10 harg10 arg11 arg12 arg13 v0 f3 g k) (trip.sl.H13_32 c arg3 arg10 harg10 arg11 arg12 v0 ⟨k, h⟩ f3) else b13 c arg3 arg10 harg10 arg11 arg12 arg13 v0 f3 g k

/-- The carried scales before trip `k`. -/
def accs (c : Dev nD) (arg3 : Memref sig .tc .vmem S512x6144 .bf16) (arg10 : Memref sig .tc .vmem S512x128 .bf16) (harg10 : arg10.IsWhole) (arg12 : Memref sig .tc .vmem S64x128 .f32) (v0 : Vec F S1x24 .f32) (v7 : IVec S8x128 32) (f3 : Bf (F := F) c arg3) (init : FVec F S32x128 .f32 × FVec F S32x128 .f32 × FVec F S32x128 .f32) : ℕ → FVec F S32x128 .f32 × FVec F S32x128 .f32 × FVec F S32x128 .f32
  | 0 => init
  | k + 1 => if h : k < k0_t1_loop.trips then
      (trip.sl.v2284 c arg3 arg10 harg10 arg12 v0 v7 ⟨k, h⟩ (accs c arg3 arg10 harg10 arg12 v0 v7 f3 init k) f3, trip.sl.v2346 c arg3 arg10 harg10 arg12 v0 v7 ⟨k, h⟩ (accs c arg3 arg10 harg10 arg12 v0 v7 f3 init k) f3,
        k0_pay383 (accs c arg3 arg10 harg10 arg12 v0 v7 f3 init k).2.2 (trip.sl.arg14 ⟨k, h⟩) (trip.sl.r_138 c arg3 arg10 harg10 arg12 v0 ⟨k, h⟩ f3) (trip.sl.r_141 c arg3 arg10 harg10 arg12 v0 v7 ⟨k, h⟩ f3) (trip.sl.r_142 v7 ⟨k, h⟩))
    else accs c arg3 arg10 harg10 arg12 v0 v7 f3 init k

/-- The chunk loop's invariant: every buffer a trip writes and the carried scales at what the trips before leave. -/
@[sl_loop, instance_reducible] noncomputable def loopInv (c : Dev nD) (i : grid0.Coords) (arg1 : Memref sig .tc .vmem S1x24 .f32) (harg1 : arg1.IsWhole) (arg2 : Memref sig .tc .vmem S256x6144 .bf16) (harg2 : arg2.IsWhole) (arg3 : Memref sig .tc .vmem S512x6144 .bf16) (harg3 : arg3.IsWhole) (arg4 : Memref sig .tc .vmem S256x512 .bf16) (harg4 : arg4.IsWhole) (arg5 : Memref sig .tc .vmem S512x3072 .i8) (harg5 : arg5.IsWhole) (arg6 : Memref sig .tc .vmem S6144x256 .i8) (harg6 : arg6.IsWhole) (arg7 : Memref sig .tc .vmem S32x384 .fp8e4m3) (harg7 : arg7.IsWhole) (arg8 : Memref sig .tc .vmem S1x1 .f32) (harg8 : arg8.IsWhole) (arg9 : Memref sig .tc .vmem S8x128 .f32) (harg9 : arg9.IsWhole) (arg10 : Memref sig .tc .vmem S512x128 .bf16) (harg10 : arg10.IsWhole) (arg11 : Memref sig .tc .vmem S64x128 .f32) (harg11 : arg11.IsWhole) (arg12 : Memref sig .tc .vmem S64x128 .f32) (harg12 : arg12.IsWhole) (arg13 : Memref sig .tc .vmem S512x6144 .bf16) (harg13 : arg13.IsWhole) (v0 : Vec F S1x24 .f32) (v7 : IVec S8x128 32) (init : FVec F S32x128 .f32 × FVec F S32x128 .f32 × FVec F S32x128 .f32)
    (f3 : Bf (F := F) c arg3) (g5 : Bf (F := F) c arg5) (g6 : Bf (F := F) c arg6) (g9 : Bf (F := F) c arg9) (g13 : Bf (F := F) c arg13) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v0 v7 init where
  inv := fun k acc => iprop(⌜acc = accs c arg3 arg10 harg10 arg12 v0 v7 f3 init k⌝ ∗ pt c arg3 f3 ∗ pt c arg5 (b5 c arg3 arg5 arg10 harg10 arg11 v0 f3 g5 k) ∗ pt c arg6 (b6 c arg3 arg6 arg10 harg10 arg11 v0 f3 g6 k) ∗ pt c arg9 (b9 c arg3 arg9 arg10 harg10 f3 g9 k)
    ∗ (∃ f, pt (F := F) c arg10 f) ∗ (∃ f, pt (F := F) c arg11 f) ∗ (∃ f, pt (F := F) c arg12 f) ∗ pt c arg13 (b13 c arg3 arg10 harg10 arg11 arg12 arg13 v0 f3 g13 k))
  step := fun k acc => by
    iintro ⟨%hacc, H⟩
    subst hacc
    have h := tripExact c i arg1 harg1 arg2 harg2 arg3 harg3 arg4 harg4 arg5 harg5 arg6 harg6 arg7 harg7 arg8 harg8 arg9 harg9 arg10 harg10 arg11 harg11 arg12 harg12 arg13 harg13 v0 v7 k (accs c arg3 arg10 harg10 arg12 v0 v7 f3 init k) f3 (b5 c arg3 arg5 arg10 harg10 arg11 v0 f3 g5 k) (b6 c arg3 arg6 arg10 harg10 arg11 v0 f3 g6 k) (b9 c arg3 arg9 arg10 harg10 f3 g9 k) (b13 c arg3 arg10 harg10 arg11 arg12 arg13 v0 f3 g13 k)
    have e5 : b5 c arg3 arg5 arg10 harg10 arg11 v0 f3 g5 (k.val + 1) = _ := (b5.eq_2 ..).trans (dif_pos k.isLt)
    have e6 : b6 c arg3 arg6 arg10 harg10 arg11 v0 f3 g6 (k.val + 1) = _ := (b6.eq_2 ..).trans (dif_pos k.isLt)
    have e9 : b9 c arg3 arg9 arg10 harg10 f3 g9 (k.val + 1) = _ := (b9.eq_2 ..).trans (dif_pos k.isLt)
    have e13 : b13 c arg3 arg10 harg10 arg11 arg12 arg13 v0 f3 g13 (k.val + 1) = _ := (b13.eq_2 ..).trans (dif_pos k.isLt)
    have ea : accs c arg3 arg10 harg10 arg12 v0 v7 f3 init (k.val + 1) = _ := (accs.eq_2 ..).trans (dif_pos k.isLt)
    rw [e5, e6, e9, e13, ea]
    iapply h
    iexact H

end Cert.Proof.KernelIdealValue

end
-- ==== Proof.S.KStruct.lean ====
module

public import proofs.«01_k».proof.Proof.S.TripKernelIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where block `b`'s rows and the trip's columns start. -/
def offW (b : ℕ) (k : Fin k0_t1_loop.trips) : Fin 2 → ℕ := ![16 * b, k0_off1 k 1]

theorem offW_inb (b : Fin 32) (k : Fin k0_t1_loop.trips) : ∀ a, offW b k a + S16x256.size a ≤ S512x6144.size a := by
  have h := k0_off1_inb k
  intro a
  match a with
  | ⟨0, _⟩ => change 16 * b.val + 16 ≤ 512; omega
  | ⟨1, _⟩ => exact h 1

/-- Block `b`'s weights in the trip's columns. -/
def wBlk (c : Dev nD) (arg3 : Memref sig .tc .vmem S512x6144 .bf16) (k : Fin k0_t1_loop.trips) (f3 : Bf (F := F) c arg3) (b : Fin 32) : Vec F S16x256 .bf16 :=
  View.readAt (Elt F) arg3.view (Rect.unit (s := S512x6144) (offW b k) S16x256.size (offW_inb b k)).toLoadRect f3

theorem inb8 (N : ℕ) (n : Fin N) : ∀ a, (![8 * n.val, 0] : Fin 2 → ℕ) a + S8x128.size a ≤ (![8 * N, 128] : Fin 2 → ℕ) a := by
  intro a
  match a with
  | ⟨0, _⟩ => change 8 * n.val + 8 ≤ 8 * N; omega
  | ⟨1, _⟩ => change 0 + 128 ≤ 128; omega

/-- The half-block maxima's rows `8 n .. 8 n + 7`: block `n / 2`, columns of half `n % 2`. -/
def piece10 (c : Dev nD) (arg3 : Memref sig .tc .vmem S512x6144 .bf16) (k : Fin k0_t1_loop.trips) (f3 : Bf (F := F) c arg3) (n : Fin 64) : View.Piece (Elt F) S512x128 .bf16 :=
  ⟨Rect.unit (s := S512x128) ![8 * n.val, 0] S8x128.size (inb8 64 n),
    if n.val % 2 = 0 then k0_pay2 (wBlk c arg3 k f3 ⟨n / 2, by omega⟩) else k0_pay3 (wBlk c arg3 k f3 ⟨n / 2, by omega⟩)⟩

theorem H10_eq (c : Dev nD) (arg3 : Memref sig .tc .vmem S512x6144 .bf16) (k : Fin k0_t1_loop.trips) (f3 : Bf (F := F) c arg3) :
    trip.sl.H10_64 c arg3 k f3 = List.ofFn fun n : Fin 64 => piece10 c arg3 k f3 n.rev := by
  sl_kernel_rfl

theorem rawInb (g : Fin 8) (s : Fin 4) : ∀ a, S8x2x128.size a = 0 ∨ (![32 * g.val + s.val, 0, 0] : Fin 3 → ℕ) a + (![4, 1, 1] : Fin 3 → ℕ) a * (S8x2x128.size a - 1) < S256x2x128.size a := by
  intro a
  right
  match a with
  | ⟨0, _⟩ => change 32 * g.val + s.val + 4 * 7 < 256; omega
  | ⟨1, _⟩ => change 0 + 1 * 1 < 2; omega
  | ⟨2, _⟩ => change 0 + 1 * 127 < 128; omega

/-- Group `g`'s every fourth pair of rows of the half-block maxima, from pair `s` on. -/
def rawM (c : Dev nD) (arg3 : Memref sig .tc .vmem S512x6144 .bf16) (arg10 : Memref sig .tc .vmem S512x128 .bf16) (harg10 : arg10.IsWhole) (k : Fin k0_t1_loop.trips) (f3 : Bf (F := F) c arg3) (g : Fin 8) (s : Fin 4) : Vec F S8x2x128 .bf16 :=
  View.readAt (Elt F) (arg10.reshape S256x2x128 k0_part12_skel._proof_8 k0_part12_skel._proof_9 harg10.contiguous).view
    { off := ![32 * g.val + s.val, 0, 0], size := S8x2x128.size, stride := ![4, 1, 1], inb := rawInb g s }
    (arg10.view.writes (Elt F) arg10.view.junk (trip.sl.H10_64 c arg3 k f3))

/-- Group `g`'s column maxima. -/
def colMax (c : Dev nD) (arg3 : Memref sig .tc .vmem S512x6144 .bf16) (arg10 : Memref sig .tc .vmem S512x128 .bf16) (harg10 : arg10.IsWhole) (k : Fin k0_t1_loop.trips) (f3 : Bf (F := F) c arg3) (g : Fin 8) : FVec F S8x128 .f32 :=
  k0_pay107 (rawM c arg3 arg10 harg10 k f3 g 0) (rawM c arg3 arg10 harg10 k f3 g 1) (rawM c arg3 arg10 harg10 k f3 g 2) (rawM c arg3 arg10 harg10 k f3 g 3)

/-- The lane number. -/
abbrev laneV : IVec S8x128 32 := iota Kind.tc S8x128 32 [1] iota_S8x128_d1_w32

/-- Group `g`'s block maxima. -/
def blkMax (c : Dev nD) (arg3 : Memref sig .tc .vmem S512x6144 .bf16) (arg10 : Memref sig .tc .vmem S512x128 .bf16) (harg10 : arg10.IsWhole) (k : Fin k0_t1_loop.trips) (f3 : Bf (F := F) c arg3) (g : Fin 8) : FVec F S8x128 .f32 :=
  k0_pay109 (colMax c arg3 arg10 harg10 k f3 g) laneV k0_pay108

/-- Group `g`'s block maxima over six times the tensor scale. -/
def quo (c : Dev nD) (arg3 : Memref sig .tc .vmem S512x6144 .bf16) (arg10 : Memref sig .tc .vmem S512x128 .bf16) (harg10 : arg10.IsWhole) (v0 : Vec F S1x24 .f32) (k : Fin k0_t1_loop.trips) (f3 : Bf (F := F) c arg3) (g : Fin 8) : FVec F S8x128 .f32 :=
  k0_pay111 (k0_pay380 v0) (colMax c arg3 arg10 harg10 k f3 g) laneV k0_pay108

/-- Group `g`'s stored reciprocals. -/
def piece11 (c : Dev nD) (arg3 : Memref sig .tc .vmem S512x6144 .bf16) (arg10 : Memref sig .tc .vmem S512x128 .bf16) (harg10 : arg10.IsWhole) (v0 : Vec F S1x24 .f32) (k : Fin k0_t1_loop.trips) (f3 : Bf (F := F) c arg3) (g : Fin 8) : View.Piece (Elt F) S64x128 .f32 :=
  ⟨Rect.unit (s := S64x128) ![8 * g.val, 0] S8x128.size (inb8 8 g), k0_pay113 (k0_pay380 v0) (quo c arg3 arg10 harg10 v0 k f3 g) (FloatOps.ofBits FTy.f32 1138753536#32)⟩

/-- Group `g`'s stored scales. -/
def piece12 (c : Dev nD) (arg3 : Memref sig .tc .vmem S512x6144 .bf16) (arg10 : Memref sig .tc .vmem S512x128 .bf16) (harg10 : arg10.IsWhole) (v0 : Vec F S1x24 .f32) (k : Fin k0_t1_loop.trips) (f3 : Bf (F := F) c arg3) (g : Fin 8) : View.Piece (Elt F) S64x128 .f32 :=
  ⟨Rect.unit (s := S64x128) ![8 * g.val, 0] S8x128.size (inb8 8 g), k0_pay114 (quo c arg3 arg10 harg10 v0 k f3 g) (FloatOps.ofBits FTy.f32 1138753536#32)⟩

theorem H11_eq (c : Dev nD) (arg3 : Memref sig .tc .vmem S512x6144 .bf16) (arg10 : Memref sig .tc .vmem S512x128 .bf16) (harg10 : arg10.IsWhole) (v0 : Vec F S1x24 .f32) (k : Fin k0_t1_loop.trips) (f3 : Bf (F := F) c arg3) :
    trip.sl.H11_8 c arg3 arg10 harg10 v0 k f3 = List.ofFn fun g : Fin 8 => piece11 c arg3 arg10 harg10 v0 k f3 g.rev := by
  sl_kernel_rfl

theorem H12_eq (c : Dev nD) (arg3 : Memref sig .tc .vmem S512x6144 .bf16) (arg10 : Memref sig .tc .vmem S512x128 .bf16) (harg10 : arg10.IsWhole) (v0 : Vec F S1x24 .f32) (k : Fin k0_t1_loop.trips) (f3 : Bf (F := F) c arg3) :
    trip.sl.H12_8 c arg3 arg10 harg10 v0 k f3 = List.ofFn fun g : Fin 8 => piece12 c arg3 arg10 harg10 v0 k f3 g.rev := by
  sl_kernel_rfl

/-- The running maxima after a trip, from those before it. -/
def amNext (c : Dev nD) (arg3 : Memref sig .tc .vmem S512x6144 .bf16) (arg10 : Memref sig .tc .vmem S512x128 .bf16) (harg10 : arg10.IsWhole) (k : Fin k0_t1_loop.trips) (f3 : Bf (F := F) c arg3) (am : FVec F S8x128 .f32) : FVec F S8x128 .f32 :=
  List.foldl (fun a g => maximumf a (blkMax c arg3 arg10 harg10 k f3 g)) am (List.finRange 8)

theorem H9_eq (c : Dev nD) (arg3 : Memref sig .tc .vmem S512x6144 .bf16) (arg9 : Memref sig .tc .vmem S8x128 .f32) (arg10 : Memref sig .tc .vmem S512x128 .bf16) (harg10 : arg10.IsWhole) (k : Fin k0_t1_loop.trips) (f3 : Bf (F := F) c arg3) (f9 : Bf (F := F) c arg9) :
    trip.sl.H9_1 c arg3 arg9 arg10 harg10 k f3 f9 = [⟨Rect.unit (s := S8x128) ![0, 0] S8x128.size inb_S8x128_S8x128_0_0,
      amNext c arg3 arg10 harg10 k f3 (k0_pay106 (View.readAt (Elt F) arg9.view (Rect.unit (s := S8x128) ![0, 0] S8x128.size inb_S8x128_S8x128_0_0).toLoadRect f9))⟩] := by
  sl_kernel_rfl

theorem rowInb (n : Fin 64) : ∀ a, S8x128.size a = 0 ∨ (![n.val, 0] : Fin 2 → ℕ) a + (![0, 1] : Fin 2 → ℕ) a * (S8x128.size a - 1) < S64x128.size a := by
  intro a
  right
  match a with
  | ⟨0, _⟩ => change n.val + 0 * 7 < 64; omega
  | ⟨1, _⟩ => change 0 + 1 * 127 < 128; omega

/-- Row `n` of the reciprocals, in every sublane. -/
def rowR (c : Dev nD) (arg3 : Memref sig .tc .vmem S512x6144 .bf16) (arg10 : Memref sig .tc .vmem S512x128 .bf16) (harg10 : arg10.IsWhole) (arg11 : Memref sig .tc .vmem S64x128 .f32) (v0 : Vec F S1x24 .f32) (k : Fin k0_t1_loop.trips) (f3 : Bf (F := F) c arg3) (n : Fin 64) : Vec F S8x128 .f32 :=
  arg11.view.readCov (trip.sl.H11_8 c arg3 arg10 harg10 v0 k f3) { off := ![n.val, 0], size := S8x128.size, stride := ![0, 1], inb := rowInb n }

/-- Row `n` of the scales, in every sublane. -/
def rowS (c : Dev nD) (arg3 : Memref sig .tc .vmem S512x6144 .bf16) (arg10 : Memref sig .tc .vmem S512x128 .bf16) (harg10 : arg10.IsWhole) (arg12 : Memref sig .tc .vmem S64x128 .f32) (v0 : Vec F S1x24 .f32) (k : Fin k0_t1_loop.trips) (f3 : Bf (F := F) c arg3) (n : Fin 64) : Vec F S8x128 .f32 :=
  arg12.view.readCov (trip.sl.H12_8 c arg3 arg10 harg10 v0 k f3) { off := ![n.val, 0], size := S8x128.size, stride := ![0, 1], inb := rowInb n }

/-- Eight rows of a block's quotients: its first rows (`n` even) or its last. -/
def band (c : Dev nD) (arg3 : Memref sig .tc .vmem S512x6144 .bf16) (arg10 : Memref sig .tc .vmem S512x128 .bf16) (harg10 : arg10.IsWhole) (arg11 : Memref sig .tc .vmem S64x128 .f32) (v0 : Vec F S1x24 .f32) (k : Fin k0_t1_loop.trips) (f3 : Bf (F := F) c arg3) (n : Fin 64) : FVec F S8x256 .f32 :=
  if n.val % 2 = 0 then k0_pay183 (wBlk c arg3 k f3 ⟨n / 2, by omega⟩) (rowR c arg3 arg10 harg10 arg11 v0 k f3 ⟨2 * (n.val / 2), by omega⟩) (rowR c arg3 arg10 harg10 arg11 v0 k f3 ⟨2 * (n.val / 2) + 1, by omega⟩)
  else k0_pay184 (k0_pay181 (wBlk c arg3 k f3 ⟨n / 2, by omega⟩)) (k0_pay182 (rowR c arg3 arg10 harg10 arg11 v0 k f3 ⟨2 * (n.val / 2), by omega⟩) (rowR c arg3 arg10 harg10 arg11 v0 k f3 ⟨2 * (n.val / 2) + 1, by omega⟩))

/-- The thirty-two bands of one part, stacked, plus zero. -/
def quots (c : Dev nD) (arg3 : Memref sig .tc .vmem S512x6144 .bf16) (arg10 : Memref sig .tc .vmem S512x128 .bf16) (harg10 : arg10.IsWhole) (arg11 : Memref sig .tc .vmem S64x128 .f32) (v0 : Vec F S1x24 .f32) (k : Fin k0_t1_loop.trips) (f3 : Bf (F := F) c arg3) (p : Fin 2) : FVec F S256x256 .f32 :=
  addf (concatenate S256x256 0 (List.ofFn fun n : Fin 32 => ⟨S8x256, band c arg3 arg10 harg10 arg11 v0 k f3 ⟨32 * p.val + n.val, by omega⟩⟩)
      concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0)
    (broadcast S256x256 (Scalar.ofBits .f32 0x00000000#32))

/-- One threshold's contribution. -/
def above (v : IVec S256x256 1) : IVec S256x256 32 := select v (broadcast S256x256 1#32) (broadcast S256x256 0#32)

/-- The codes of quotients. -/
def codes (v : FVec F S256x256 .f32) : IVec S256x256 32 :=
  k0_pay242 (absf v)
    (addi (select (cmpf .olt v (broadcast S256x256 (Scalar.ofBits .f32 0x00000000#32))) (broadcast S256x256 8#32) (broadcast S256x256 0#32))
      (above (cmpf .ogt (absf v) (broadcast S256x256 (Scalar.ofBits .f32 0x3E800000#32)))))
    (cmpf .oge (absf v) (broadcast S256x256 (Scalar.ofBits .f32 0x3F400000#32))) 0#32 k0_pay241

/-- Codes of rows 2n and 2n + 1 packed in a byte, transposed. -/
def packed (v : IVec S256x256 32) : IVec S256x128 8 :=
  transpose S256x128 [1, 0] (trunci 8 (ori
    (shapeCast S128x256 (extractStridedSlice S128x1x256 ![0, 0, 0] (shapeCast S128x2x256 v shapeCasts_S256x256_S128x2x256) slices_S128x2x256_o0_0_0_S128x1x256) shapeCasts_S128x1x256_S128x256)
    (shli (shapeCast S128x256 (extractStridedSlice S128x1x256 ![0, 1, 0] (shapeCast S128x2x256 v shapeCasts_S256x256_S128x2x256) slices_S128x2x256_o0_1_0_S128x1x256) shapeCasts_S128x1x256_S128x256)
      (broadcast S128x256 4#32))) natLt_8_32) transposes_S128x256_p1_0_S256x128

/-- The values codes stand for. -/
def values (v : IVec S256x256 32) : FVec F S256x256 .bf16 := k0_pay247 v (k0_pay245 v) (k0_pay246 v) 4#32

theorem r87_eq (c : Dev nD) (arg3 : Memref sig .tc .vmem S512x6144 .bf16) (arg10 : Memref sig .tc .vmem S512x128 .bf16) (harg10 : arg10.IsWhole) (arg11 : Memref sig .tc .vmem S64x128 .f32) (v0 : Vec F S1x24 .f32) (k : Fin k0_t1_loop.trips) (f3 : Bf (F := F) c arg3) : trip.sl.r_87 c arg3 arg10 harg10 arg11 v0 k f3 = codes (quots c arg3 arg10 harg10 arg11 v0 k f3 0) := by
  sl_kernel_rfl

theorem r131_eq (c : Dev nD) (arg3 : Memref sig .tc .vmem S512x6144 .bf16) (arg10 : Memref sig .tc .vmem S512x128 .bf16) (harg10 : arg10.IsWhole) (arg11 : Memref sig .tc .vmem S64x128 .f32) (v0 : Vec F S1x24 .f32) (k : Fin k0_t1_loop.trips) (f3 : Bf (F := F) c arg3) : trip.sl.r_131 c arg3 arg10 harg10 arg11 v0 k f3 = codes (quots c arg3 arg10 harg10 arg11 v0 k f3 1) := by
  sl_kernel_rfl

theorem H6_eq (c : Dev nD) (arg3 : Memref sig .tc .vmem S512x6144 .bf16) (arg10 : Memref sig .tc .vmem S512x128 .bf16) (harg10 : arg10.IsWhole) (arg11 : Memref sig .tc .vmem S64x128 .f32) (v0 : Vec F S1x24 .f32) (k : Fin k0_t1_loop.trips) (f3 : Bf (F := F) c arg3) :
    trip.sl.H6_2 c arg3 arg10 harg10 arg11 v0 k f3 = [⟨Rect.unit (s := S6144x256) (k0_off35 k) S256x128.size (k0_off35_inb k), packed (trip.sl.r_131 c arg3 arg10 harg10 arg11 v0 k f3)⟩,
      ⟨Rect.unit (s := S6144x256) (k0_off33 k) S256x128.size (k0_off33_inb k), packed (trip.sl.r_87 c arg3 arg10 harg10 arg11 v0 k f3)⟩] := by
  sl_kernel_rfl

theorem H5_eq (c : Dev nD) (arg3 : Memref sig .tc .vmem S512x6144 .bf16) (arg10 : Memref sig .tc .vmem S512x128 .bf16) (harg10 : arg10.IsWhole) (arg11 : Memref sig .tc .vmem S64x128 .f32) (v0 : Vec F S1x24 .f32) (k : Fin k0_t1_loop.trips) (f3 : Bf (F := F) c arg3) :
    trip.sl.H5_2 c arg3 arg10 harg10 arg11 v0 k f3 = [⟨Rect.unit (s := S512x3072) (k0_off36 k) S256x128.size (k0_off36_inb k), k0_pay244 (packed (trip.sl.r_131 c arg3 arg10 harg10 arg11 v0 k f3))⟩,
      ⟨Rect.unit (s := S512x3072) (k0_off34 k) S256x128.size (k0_off34_inb k), k0_pay244 (packed (trip.sl.r_87 c arg3 arg10 harg10 arg11 v0 k f3))⟩] := by
  sl_kernel_rfl

theorem bandInb : ∀ n : Fin 16, S256x256.Slices ![16 * n.val, 0] S16x256 := by
  decide +kernel

/-- Block `b`'s decoded rows. -/
def piece13 (c : Dev nD) (arg3 : Memref sig .tc .vmem S512x6144 .bf16) (arg10 : Memref sig .tc .vmem S512x128 .bf16) (harg10 : arg10.IsWhole) (arg11 : Memref sig .tc .vmem S64x128 .f32) (arg12 : Memref sig .tc .vmem S64x128 .f32) (v0 : Vec F S1x24 .f32) (k : Fin k0_t1_loop.trips) (f3 : Bf (F := F) c arg3) (b : Fin 32) : View.Piece (Elt F) S512x6144 .bf16 :=
  ⟨Rect.unit (s := S512x6144) (offW b k) S16x256.size (offW_inb b k),
    shapeCast S16x256 (mulf (extractStridedSlice S16x256 ![16 * (b.val % 16), 0] (values (codes (quots c arg3 arg10 harg10 arg11 v0 k f3 ⟨b / 16, by omega⟩))) (bandInb ⟨b % 16, by omega⟩))
      (truncf .bf16 (concatenate S16x256 0 [⟨S8x256, concatenate S8x256 1 [⟨S8x128, rowS c arg3 arg10 harg10 arg12 v0 k f3 ⟨2 * b.val, by omega⟩⟩, ⟨S8x128, rowS c arg3 arg10 harg10 arg12 v0 k f3 ⟨2 * b.val + 1, by omega⟩⟩] concatenates_S8x128_S8x128_S8x256_d1⟩, ⟨S8x256, concatenate S8x256 1 [⟨S8x128, rowS c arg3 arg10 harg10 arg12 v0 k f3 ⟨2 * b.val, by omega⟩⟩, ⟨S8x128, rowS c arg3 arg10 harg10 arg12 v0 k f3 ⟨2 * b.val + 1, by omega⟩⟩] concatenates_S8x128_S8x128_S8x256_d1⟩] concatenates_S8x256_S8x256_S16x256_d0)
        bitsLt_bf16_f32)) shapeCasts_S16x256_S16x256⟩

theorem H13_eq (c : Dev nD) (arg3 : Memref sig .tc .vmem S512x6144 .bf16) (arg10 : Memref sig .tc .vmem S512x128 .bf16) (harg10 : arg10.IsWhole) (arg11 : Memref sig .tc .vmem S64x128 .f32) (arg12 : Memref sig .tc .vmem S64x128 .f32) (v0 : Vec F S1x24 .f32) (k : Fin k0_t1_loop.trips) (f3 : Bf (F := F) c arg3) :
    trip.sl.H13_32 c arg3 arg10 harg10 arg11 arg12 v0 k f3 = List.ofFn fun b : Fin 32 => piece13 c arg3 arg10 harg10 arg11 arg12 v0 k f3 b.rev := by
  sl_kernel_rfl

/-- Half `h`'s rows of the scales. -/
def half0 (sb : FVec F S64x128 .f32) : FVec F S32x128 .f32 :=
  shapeCast S32x128 (extractStridedSlice S32x1x128 ![0, 0, 0] (shapeCast S32x2x128 sb shapeCasts_S64x128_S32x2x128) slices_S32x2x128_o0_0_0_S32x1x128) shapeCasts_S32x1x128_S32x128

@[inherit_doc half0] def half1 (sb : FVec F S64x128 .f32) : FVec F S32x128 .f32 :=
  shapeCast S32x128 (extractStridedSlice S32x1x128 ![0, 1, 0] (shapeCast S32x2x128 sb shapeCasts_S64x128_S32x2x128) slices_S32x2x128_o0_1_0_S32x1x128) shapeCasts_S32x1x128_S32x128

/-- The lane a lane of the carried scales takes its value from, before the range test. -/
def srcLane (v7 : IVec S8x128 32) (it t h : BitVec 32) : IVec S1x128 32 :=
  muli (broadcast S1x128 16#32) (subi (subi (extractStridedSlice S1x128 ![0, 0] v7 slices_S8x128_o0_0_S1x128) (broadcast S1x128 (Scalar.subi (Scalar.muli 16#32 it) t))) (broadcast S1x128 h))

/-- Whether that lane is one. -/
def srcOk (v7 : IVec S8x128 32) (it t h : BitVec 32) : IVec S1x128 1 :=
  andi (cmpi .sge (srcLane v7 it t h) (broadcast S1x128 0#32)) (cmpi .slt (srcLane v7 it t h) (broadcast S1x128 128#32))

/-- The gather's indices. -/
def srcIdx (v7 : IVec S8x128 32) (it t h : BitVec 32) : IVec S32x128 32 :=
  broadcastTo S32x128 (shapeCast S1x128 (select (srcOk v7 it t h) (srcLane v7 it t h) (broadcast S1x128 0#32)) shapeCasts_S1x128_S1x128) broadcasts_S1x128_S32x128

/-- The carried scales with a half's new columns put in. -/
def pick (v7 : IVec S8x128 32) (it t h : BitVec 32) (row old : FVec F S32x128 .f32) : FVec F S32x128 .f32 :=
  select (broadcastTo S32x128 (shapeCast S1x128 (srcOk v7 it t h) shapeCasts_S1x128_S1x128) broadcasts_S1x128_S32x128)
    (dynamicGather 1 row (shapeCast S32x128 (shapeCast S32x128x1 (select (cmpi .slt (srcIdx v7 it t h) (broadcast S32x128 0#32)) (addi (srcIdx v7 it t h) (broadcast S32x128 128#32)) (srcIdx v7 it t h)) shapeCasts_S32x128_S32x128x1) shapeCasts_S32x128x1_S32x128))
    old

/-- A trip's two half columns put in one carried third. -/
def pick2 (v7 : IVec S8x128 32) (it t : BitVec 32) (sb : FVec F S64x128 .f32) (old : FVec F S32x128 .f32) : FVec F S32x128 .f32 :=
  pick v7 it t 8#32 (half1 sb) (pick v7 it t 0#32 (half0 sb) old)

/-- All the scales of a trip. -/
def allS (c : Dev nD) (arg3 : Memref sig .tc .vmem S512x6144 .bf16) (arg10 : Memref sig .tc .vmem S512x128 .bf16) (harg10 : arg10.IsWhole) (arg12 : Memref sig .tc .vmem S64x128 .f32) (v0 : Vec F S1x24 .f32) (k : Fin k0_t1_loop.trips) (f3 : Bf (F := F) c arg3) : FVec F S64x128 .f32 :=
  arg12.view.readCov (trip.sl.H12_8 c arg3 arg10 harg10 v0 k f3) (Rect.unit (s := S64x128) ![0, 0] S64x128.size inb_S64x128_S64x128_0_0).toLoadRect

theorem carry0_eq (c : Dev nD) (arg3 : Memref sig .tc .vmem S512x6144 .bf16) (arg10 : Memref sig .tc .vmem S512x128 .bf16) (harg10 : arg10.IsWhole) (arg12 : Memref sig .tc .vmem S64x128 .f32) (v0 : Vec F S1x24 .f32) (k : Fin k0_t1_loop.trips) (acc : FVec F S32x128 .f32 × FVec F S32x128 .f32 × FVec F S32x128 .f32) (f3 : Bf (F := F) c arg3) :
    trip.sl.v2284 c arg3 arg10 harg10 arg12 v0 laneV k acc f3 = pick2 laneV (Scf.iv 0#32 1#32 k) 0#32 (allS c arg3 arg10 harg10 arg12 v0 k f3) acc.1 := by
  sl_kernel_rfl

theorem carry1_eq (c : Dev nD) (arg3 : Memref sig .tc .vmem S512x6144 .bf16) (arg10 : Memref sig .tc .vmem S512x128 .bf16) (harg10 : arg10.IsWhole) (arg12 : Memref sig .tc .vmem S64x128 .f32) (v0 : Vec F S1x24 .f32) (k : Fin k0_t1_loop.trips) (acc : FVec F S32x128 .f32 × FVec F S32x128 .f32 × FVec F S32x128 .f32) (f3 : Bf (F := F) c arg3) :
    trip.sl.v2346 c arg3 arg10 harg10 arg12 v0 laneV k acc f3 = pick2 laneV (Scf.iv 0#32 1#32 k) 128#32 (allS c arg3 arg10 harg10 arg12 v0 k f3) acc.2.1 := by
  sl_kernel_rfl

theorem carry2_eq (c : Dev nD) (arg3 : Memref sig .tc .vmem S512x6144 .bf16) (arg10 : Memref sig .tc .vmem S512x128 .bf16) (harg10 : arg10.IsWhole) (arg12 : Memref sig .tc .vmem S64x128 .f32) (v0 : Vec F S1x24 .f32) (k : Fin k0_t1_loop.trips) (acc : FVec F S32x128 .f32 × FVec F S32x128 .f32 × FVec F S32x128 .f32) (f3 : Bf (F := F) c arg3) :
    k0_pay383 acc.2.2 (trip.sl.arg14 k) (trip.sl.r_138 c arg3 arg10 harg10 arg12 v0 k f3) (trip.sl.r_141 c arg3 arg10 harg10 arg12 v0 laneV k f3) (trip.sl.r_142 laneV k)
      = pick2 laneV (Scf.iv 0#32 1#32 k) 256#32 (allS c arg3 arg10 harg10 arg12 v0 k f3) acc.2.2 := by
  sl_kernel_rfl

theorem carry_eq (c : Dev nD) (arg3 : Memref sig .tc .vmem S512x6144 .bf16) (arg10 : Memref sig .tc .vmem S512x128 .bf16) (harg10 : arg10.IsWhole) (arg12 : Memref sig .tc .vmem S64x128 .f32) (v0 : Vec F S1x24 .f32) (k : Fin k0_t1_loop.trips) (acc : FVec F S32x128 .f32 × FVec F S32x128 .f32 × FVec F S32x128 .f32) (f3 : Bf (F := F) c arg3) :
    (trip.sl.v2284 c arg3 arg10 harg10 arg12 v0 laneV k acc f3, trip.sl.v2346 c arg3 arg10 harg10 arg12 v0 laneV k acc f3,
        k0_pay383 acc.2.2 (trip.sl.arg14 k) (trip.sl.r_138 c arg3 arg10 harg10 arg12 v0 k f3) (trip.sl.r_141 c arg3 arg10 harg10 arg12 v0 laneV k f3) (trip.sl.r_142 laneV k))
      = (pick2 laneV (Scf.iv 0#32 1#32 k) 0#32 (allS c arg3 arg10 harg10 arg12 v0 k f3) acc.1,
        pick2 laneV (Scf.iv 0#32 1#32 k) 128#32 (allS c arg3 arg10 harg10 arg12 v0 k f3) acc.2.1,
        pick2 laneV (Scf.iv 0#32 1#32 k) 256#32 (allS c arg3 arg10 harg10 arg12 v0 k f3) acc.2.2) := by
  rw [carry0_eq, carry1_eq, carry2_eq]

end Cert.Proof.KernelIdeal

end
-- ==== Proof.S.Spec.lean ====
module

public import Idealize.ShloMosaic.PureOps.Ideal
public import Mathlib.Data.EReal.Inv

@[expose] public section

/-! The quantiser as functions of a weight matrix indexed by naturals: block maxima, scales, four-bit codes, packed bytes and
    decoded weights. Both programs' results are read as these. -/

noncomputable section

namespace Cert.Proof.Spec

open Idealize.ShloMosaic

/-- A 32-bit float constant as its extended real. -/
abbrev kf (b : BitVec 32) : EReal := Ideal.ofBits .f32 b

/-- The absolute value. -/
def mag (x : EReal) : EReal := max x (-x)

/-- The largest absolute value of the 16 × 16 block of row block `b` and column block `k`. -/
def bam (B : ℕ → ℕ → EReal) (b k : ℕ) : EReal :=
  Finset.univ.sup fun p : Fin 16 × Fin 16 => mag (B (16 * b + p.1) (16 * k + p.2))

theorem bam_le_iff (B : ℕ → ℕ → EReal) (b k : ℕ) (x : EReal) :
    bam B b k ≤ x ↔ ∀ i < 16, ∀ j < 16, mag (B (16 * b + i) (16 * k + j)) ≤ x := by
  unfold bam
  rw [Finset.sup_le_iff]
  constructor
  · intro h i hi j hj
    exact h (⟨i, hi⟩, ⟨j, hj⟩) (Finset.mem_univ _)
  · intro h p _
    exact h p.1 p.1.isLt p.2 p.2.isLt

/-- A block's scale from its maximum and the tensor scale. -/
def scOf (st a : EReal) : EReal := min (Ideal.div a (st * kf 0x40C00000#32)) (kf 0x43E00000#32)

/-- The reciprocal of a block's full scale, zero where the full scale is not positive. -/
def rcOf (st s : EReal) : EReal := if 0 < s * st then Ideal.div 1 (s * st) else 0

/-- The block scale. -/
def sB (st : EReal) (B : ℕ → ℕ → EReal) (b k : ℕ) : EReal := scOf st (bam B b k)

/-- A weight over its block's full scale. -/
def vB (st : EReal) (B : ℕ → ℕ → EReal) (r c : ℕ) : EReal := B r c * rcOf st (sB st B (r / 16) (c / 16))

/-- The tensor scale of the history. -/
def stOf (h : Fin 24 → EReal) : EReal := Ideal.div (Finset.univ.fold max (kf 0xFF800000#32) h) (kf 0x45280000#32)

/-- The code of a value: its sign bit, and how many of the seven rounding thresholds its absolute value passes. -/
def code (v : EReal) : BitVec 32 :=
  (if v < 0 then 8#32 else 0#32) + (if kf 0x3E800000#32 < mag v then 1#32 else 0#32) + (if kf 0x3F400000#32 ≤ mag v then 1#32 else 0#32)
    + (if kf 0x3FA00000#32 < mag v then 1#32 else 0#32) + (if kf 0x3FE00000#32 ≤ mag v then 1#32 else 0#32)
    + (if kf 0x40200000#32 < mag v then 1#32 else 0#32) + (if kf 0x40600000#32 ≤ mag v then 1#32 else 0#32)
    + (if kf 0x40A00000#32 < mag v then 1#32 else 0#32)

/-- The code of a weight. -/
def cB (st : EReal) (B : ℕ → ℕ → EReal) (r c : ℕ) : BitVec 32 := code (vB st B r c)

/-- Two codes in one byte, the first in the low half. -/
def pack (lo hi : BitVec 32) : BitVec 8 := (lo ||| (hi <<< 4)).setWidth 8

theorem code_lt (v : EReal) : (code v).toNat < 16 := by
  have h : ∀ b c d e f g h : Bool, ∀ a : Bool, ((if a then 8#32 else 0#32) + (if b then 1#32 else 0#32) + (if c then 1#32 else 0#32) + (if d then 1#32 else 0#32)
      + (if e then 1#32 else 0#32) + (if f then 1#32 else 0#32) + (if g then 1#32 else 0#32) + (if h then 1#32 else 0#32) : BitVec 32).toNat < 16 := by decide
  have := h (decide (kf 0x3E800000#32 < mag v)) (decide (kf 0x3F400000#32 ≤ mag v)) (decide (kf 0x3FA00000#32 < mag v)) (decide (kf 0x3FE00000#32 ≤ mag v))
    (decide (kf 0x40200000#32 < mag v)) (decide (kf 0x40600000#32 ≤ mag v)) (decide (kf 0x40A00000#32 < mag v)) (decide (v < 0))
  simp only [decide_eq_true_eq] at this
  exact this

theorem pack_getLsbD (lo hi : BitVec 32) (hl : lo.toNat < 16) (i : ℕ) (hi8 : i < 8) :
    (pack lo hi).getLsbD i = if i < 4 then lo.getLsbD i else hi.getLsbD (i - 4) := by
  unfold pack
  simp only [BitVec.getLsbD_setWidth, BitVec.getLsbD_or, BitVec.getLsbD_shiftLeft]
  by_cases h : i < 4
  · simp [h, hi8]
  · have : lo.getLsbD i = false := by
      rw [BitVec.getLsbD, Nat.testBit_lt_two_pow]
      exact lt_of_lt_of_le hl (by calc 16 = 2 ^ 4 := rfl
        _ ≤ 2 ^ i := Nat.pow_le_pow_right (by decide) (by omega))
    have e4 : (4#32).toNat = 4 := rfl
    rw [this]
    simp [h, hi8, show i < 32 by omega]

/-- The absolute value a code's low three bits stand for. -/
def decMag (c : BitVec 32) : EReal :=
  if c &&& 7#32 = 7#32 then kf 0x40C00000#32 else if c &&& 7#32 = 6#32 then kf 0x40800000#32
  else if c &&& 7#32 = 5#32 then kf 0x40400000#32 else if c &&& 7#32 = 4#32 then kf 0x40000000#32
  else if c &&& 7#32 = 3#32 then kf 0x3FC00000#32 else if c &&& 7#32 = 2#32 then 1
  else if c &&& 7#32 = 1#32 then kf 0x3F000000#32 else 0

/-- The value a code stands for. -/
def dec (c : BitVec 32) : EReal := if 8 ≤ c.toNat then 0 - decMag c else decMag c

/-- The decoded weight. -/
def wdB (st : EReal) (B : ℕ → ℕ → EReal) (r c : ℕ) : EReal := dec (cB st B r c) * sB st B (r / 16) (c / 16)

end Cert.Proof.Spec

end
-- ==== Proof.S.Pays.lean ====
module

public import proofs.«01_k».proof.Proof.Gen.KernelIdeal.Skeleton
public import proofs.«01_k».proof.Proof.S.Spec
public import Idealize.ShloMosaic.Lib.Pointwise
public import Idealize.ShloMosaic.Lib.Tactic

@[expose] public section

set_option maxRecDepth 16384

noncomputable section

namespace Cert.Proof.KernelIdeal

open Cert.KernelIdeal Cert.KernelIdeal.Gen Cert.Proof.Spec
open Idealize.ShloMosaic Idealize.ShloMosaic.TcCoe Idealize.ShloMosaic.Tactic

set_option backward.isDefEq.respectTransparency false in
theorem pay2_apply (v : Vec Ideal S16x256 .bf16) (i : Fin 8) (l : Fin 128) :
    k0_pay2 (F := Ideal) v (ix2 i l) = max (mag (v (ix2 ⟨i, by omega⟩ ⟨l, by omega⟩))) (mag (v (ix2 ⟨8 + i, by omega⟩ ⟨l, by omega⟩))) := by
  pointwise [k0_pay2, k0_pay1]
  rfl

set_option backward.isDefEq.respectTransparency false in
theorem pay3_apply (v : Vec Ideal S16x256 .bf16) (i : Fin 8) (l : Fin 128) :
    k0_pay3 (F := Ideal) v (ix2 i l) = max (mag (v (ix2 ⟨i, by omega⟩ ⟨128 + l, by omega⟩))) (mag (v (ix2 ⟨8 + i, by omega⟩ ⟨128 + l, by omega⟩))) := by
  pointwise [k0_pay3, k0_pay1]
  rfl

set_option backward.isDefEq.respectTransparency false in
theorem pay107_apply (a b c d : Vec Ideal S8x2x128 .bf16) (i : Fin 8) (l : Fin 128) :
    k0_pay107 (F := Ideal) a b c d (ix2 i l) = max (max (max (a (ix3 i 0 l)) (b (ix3 i 0 l))) (max (c (ix3 i 0 l)) (d (ix3 i 0 l))))
      (max (max (a (ix3 i 1 l)) (b (ix3 i 1 l))) (max (c (ix3 i 1 l)) (d (ix3 i 1 l)))) := by
  pointwise [k0_pay107]
  have e0 : 2 * i.val % 2 = 0 := by omega
  have e1 : ¬ (2 * i.val + 1) % 2 = 0 := by omega
  have d0 : (⟨2 * i.val / 2, by omega⟩ : Fin 8) = i := Fin.ext (by show 2 * i.val / 2 = i.val; omega)
  have d1 : (⟨(2 * i.val + 1) / 2, by omega⟩ : Fin 8) = i := Fin.ext (by show (2 * i.val + 1) / 2 = i.val; omega)
  simp only [if_pos e0, if_neg e1, d0, d1]

set_option backward.isDefEq.respectTransparency false in
theorem pay108_apply (i : Fin 8) (l : Fin 128) :
    k0_pay108 (ix2 i l) = BitVec.ofNat 32 l ^^^ 1#32 := by
  pointwise [k0_pay108]
  rfl

/-- One step of the maximum over sixteen lanes: with the lane whose number differs in the bits of `s`. -/
def gstep (s : BitVec 32) (x : FVec Ideal S8x128 .f32) : FVec Ideal S8x128 .f32 :=
  let l : IVec S8x128 32 := xori (iota .tc S8x128 32 [1] iota_S8x128_d1_w32) (broadcast S8x128 s)
  maximumf x (dynamicGather 1 x (shapeCast S8x128 (shapeCast S8x128x1 (select (cmpi .slt l (broadcast S8x128 0#32)) (addi l (broadcast S8x128 128#32)) l) shapeCasts_S8x128_S8x128x1) shapeCasts_S8x128x1_S8x128))

theorem pay109_eq (T : FVec Ideal S8x128 .f32) : k0_pay109 (F := Ideal) T (iota Kind.tc S8x128 32 [1] iota_S8x128_d1_w32) k0_pay108 = gstep 8#32 (gstep 4#32 (gstep 2#32 (gstep 1#32 T))) := rfl

/-- The lane a step takes its other value from. -/
def gl (s : BitVec 32) (l : ℕ) : ℕ :=
  (Scalar.select (IntOp.cmpi CmpIPredicate.slt (IntOp.xori (BitVec.ofNat 32 l) s) 0#32) (IntOp.addi (IntOp.xori (BitVec.ofNat 32 l) s) 128#32) (IntOp.xori (BitVec.ofNat 32 l) s)).toNat % 128

set_option backward.isDefEq.respectTransparency false in
theorem gstep_apply (s : BitVec 32) (x : FVec Ideal S8x128 .f32) (i : Fin 8) (l : Fin 128) :
    gstep s x (ix2 i l) = max (x (ix2 i l)) (x (ix2 i ⟨gl s l, Nat.mod_lt _ (by decide)⟩)) := by
  pointwise [gstep]
  rfl

theorem gstep_le (x : FVec Ideal S8x128 .f32) (s : BitVec 32) (n : ℕ) (i : Fin 8) (z : EReal) (P : ℕ → Prop)
    (hg : ∀ l : Fin 128, (n * (l.val / n) = 2 * n * (l.val / (2 * n)) ∧ n * (gl s l / n) = 2 * n * (l.val / (2 * n)) + n)
      ∨ (n * (l.val / n) = 2 * n * (l.val / (2 * n)) + n ∧ n * (gl s l / n) = 2 * n * (l.val / (2 * n))))
    (hx : ∀ l : Fin 128, x (ix2 i l) ≤ z ↔ ∀ j < n, P (n * (l.val / n) + j)) (l : Fin 128) :
    gstep s x (ix2 i l) ≤ z ↔ ∀ j < 2 * n, P (2 * n * (l.val / (2 * n)) + j) := by
  rw [gstep_apply, max_le_iff, hx, hx]
  show (_ ∧ ∀ j < n, P (n * (gl s l / n) + j)) ↔ _
  have key : ∀ A, ((∀ j < n, P (A + j)) ∧ ∀ j < n, P (A + n + j)) ↔ ∀ j < 2 * n, P (A + j) := fun A => by
    constructor
    · rintro ⟨h1, h2⟩ j hj
      by_cases h : j < n
      · exact h1 j h
      · have := h2 (j - n) (by omega)
        rwa [show A + n + (j - n) = A + j by omega] at this
    · intro h
      exact ⟨fun j hj => h j (by omega), fun j hj => by rw [Nat.add_assoc]; exact h (n + j) (by omega)⟩
  rcases hg l with ⟨h1, h2⟩ | ⟨h1, h2⟩
  · rw [h1, h2, key]
  · rw [h1, h2, and_comm, key]

theorem pay109_le (T : FVec Ideal S8x128 .f32) (i : Fin 8) (l : Fin 128) (z : EReal) :
    k0_pay109 (F := Ideal) T (iota Kind.tc S8x128 32 [1] iota_S8x128_d1_w32) k0_pay108 (ix2 i l) ≤ z
      ↔ ∀ j (hj : j < 16), T (ix2 i ⟨16 * (l.val / 16) + j, by omega⟩) ≤ z := by
  let P : ℕ → Prop := fun n => ∀ h : n < 128, T (ix2 i ⟨n, h⟩) ≤ z
  rw [pay109_eq]
  have h0 : ∀ l : Fin 128, T (ix2 i l) ≤ z ↔ ∀ j < 1, P (1 * (l.val / 1) + j) := fun l => by
    simp only [P, Nat.div_one, Nat.one_mul]
    constructor
    · intro h j hj _
      obtain rfl : j = 0 := by omega
      exact h
    · intro h
      exact h 0 (by omega) (by omega)
  have h1 := gstep_le T 1#32 1 i z P (by decide +kernel) h0
  have h2 := gstep_le _ 2#32 2 i z P (by decide +kernel) h1
  have h4 := gstep_le _ 4#32 4 i z P (by decide +kernel) h2
  have h8 := gstep_le _ 8#32 8 i z P (by decide +kernel) h4
  rw [h8]
  constructor
  · intro h j hj
    exact h j hj _
  · intro h j hj _
    exact h j hj

set_option backward.isDefEq.respectTransparency false in
theorem pay112_apply (st : FVec Ideal S1x1 .f32) (T : FVec Ideal S8x128 .f32) (x y) (i : Fin 8) (l : Fin 128) :
    k0_pay112 (F := Ideal) (k0_pay111 st T x y) (FloatOps.ofBits FTy.f32 1138753536#32) (ix2 i l) = scOf (st (ix2 0 0)) (k0_pay109 (F := Ideal) T x y (ix2 i l)) := by
  pointwise [k0_pay112, k0_pay111]
  rfl

set_option backward.isDefEq.respectTransparency false in
theorem pay113_apply (st : FVec Ideal S1x1 .f32) (u : FVec Ideal S8x128 .f32) (x) (i : Fin 8) (l : Fin 128) :
    k0_pay113 (F := Ideal) st u x (ix2 i l) = rcOf (st (ix2 0 0)) (k0_pay112 u x (ix2 i l)) := by
  pointwise [k0_pay113]
  unfold rcOf
  split <;> rfl

set_option backward.isDefEq.respectTransparency false in
theorem pay114_apply (u : FVec Ideal S8x128 .f32) (x) (i : Fin 8) (l : Fin 128) :
    k0_pay114 (F := Ideal) u x (ix2 i l) = k0_pay112 u x (ix2 i l) := by
  pointwise [k0_pay114]

set_option backward.isDefEq.respectTransparency false in
theorem pay380_apply (h : Vec Ideal S1x24 .f32) : k0_pay380 (F := Ideal) h (ix2 0 0) = stOf fun j => h (ix2 0 j) := by
  pointwise [k0_pay380]
  rfl

set_option backward.isDefEq.respectTransparency false in
theorem pay183_apply (w : Vec Ideal S16x256 .bf16) (a b : Vec Ideal S8x128 .f32) (i : Fin 8) (l : Fin 256) :
    k0_pay183 (F := Ideal) w a b (ix2 i l) = w (ix2 ⟨i, by omega⟩ l) * (if h : l.val < 128 then a (ix2 i ⟨l, h⟩) else b (ix2 i ⟨l - 128, by omega⟩)) := by
  pointwise [k0_pay183, k0_pay181, k0_pay182]

set_option backward.isDefEq.respectTransparency false in
theorem pay184_apply (w : Vec Ideal S16x256 .bf16) (a b : Vec Ideal S8x128 .f32) (i : Fin 8) (l : Fin 256) :
    k0_pay184 (F := Ideal) (k0_pay181 w) (k0_pay182 a b) (ix2 i l) = w (ix2 ⟨8 + i, by omega⟩ l) * (if h : l.val < 128 then a (ix2 i ⟨l, h⟩) else b (ix2 i ⟨l - 128, by omega⟩)) := by
  pointwise [k0_pay184, k0_pay181, k0_pay182]

end Cert.Proof.KernelIdeal

end
-- ==== Proof.S.Pays2.lean ====
module

public import proofs.«01_k».proof.Proof.S.KStruct
public import proofs.«01_k».proof.Proof.S.Spec
public import Idealize.ShloMosaic.Lib.Pointwise
public import Idealize.ShloMosaic.Lib.BitcastPair
public import Idealize.ShloMosaic.Lib.BitcastFour
public import Idealize.ShloMosaic.Lib.Tactic

@[expose] public section

set_option maxRecDepth 16384

noncomputable section

namespace Cert.Proof.KernelIdeal

open Cert.KernelIdeal Cert.KernelIdeal.Gen Cert.Proof.Spec
open Idealize.ShloMosaic Idealize.ShloMosaic.TcCoe Idealize.ShloMosaic.Tactic

set_option backward.isDefEq.respectTransparency false in
theorem codes_apply (v : FVec Ideal S256x256 .f32) (r c : Fin 256) : codes (F := Ideal) v (ix2 r c) = code (v (ix2 r c)) := by
  pointwise [codes, k0_pay242, k0_pay241, above]
  rfl

set_option backward.isDefEq.respectTransparency false in
theorem packed_apply (v : IVec S256x256 32) (k : Fin 256) (n : Fin 128) :
    packed v (ix2 k n) = pack (v (ix2 ⟨2 * n, by omega⟩ k)) (v (ix2 ⟨2 * n + 1, by omega⟩ k)) := by
  pointwise [packed]
  simp only [Nat.mul_comm n.val 2]
  rfl

set_option backward.isDefEq.respectTransparency false in
theorem values_apply (v : IVec S256x256 32) (r c : Fin 256) (h : (v (ix2 r c)).toNat < 16) : values (F := Ideal) v (ix2 r c) = dec (v (ix2 r c)) := by
  pointwise [values, k0_pay245, k0_pay246, k0_pay247]
  have e : ∀ (a b : BitVec 32) (x y : EReal), Scalar.select (IntOp.cmpi CmpIPredicate.eq a b) x y = if a = b then x else y := fun a b x y => by
    by_cases h : a = b
    · simp [Scalar.select, IntOp.cmpi, h]
    · simp [Scalar.select, IntOp.cmpi, h, beq_eq_false_iff_ne.mpr h]
  have g : ∀ (a : BitVec 32) (x y : EReal), a.toNat < 16 → Scalar.select (IntOp.cmpi CmpIPredicate.sge a 8#32) x y = if 8 ≤ a.toNat then x else y := fun a x y h => by
    have hs : (8#32).sle a = decide (8 ≤ a.toNat) := by
      rw [BitVec.sle, BitVec.toInt_eq_toNat_of_lt (x := a) (by omega), show (8#32).toInt = ((8 : ℕ) : ℤ) from rfl]
      simp only [Nat.cast_le]
    have hc : IntOp.cmpi CmpIPredicate.sge a 8#32 = BitVec.ofBool (decide (8 ≤ a.toNat)) := by rw [← hs]; rfl
    rw [hc]
    by_cases h8 : 8 ≤ a.toNat <;> simp [Scalar.select, h8]
  simp only [e]
  rw [g _ _ _ h]
  rfl

/-- A reinterpreted element of a rank-2 array, bit by bit: bit `q` of the element at row `a`, lane `l`, is bit `u` of the
    source element at row `p` of that lane, where bit `u` of row `p` and bit `q` of row `a` are the same bit of the column. -/
theorem bitcast_getLsbD_ix2 {R r n v w : ℕ} (x : (⟨2, ![R, n]⟩ : Shape).Idx → BitVec v)
    (h : (⟨2, ![R, n]⟩ : Shape).Bitcasts v ⟨2, ![r, n]⟩ w) (a : Fin r) (l : Fin n) (q : ℕ) (hq : q < w) (p : Fin R) (u : ℕ) (hu : u < v)
    (hp : a.val * w + q = p.val * v + u) :
    (bitcast ⟨2, ![r, n]⟩ w x h (ix2 a l)).getLsbD q = (x (ix2 p l)).getLsbD u := by
  have hv : 0 < v := by omega
  have hrow : (⟨2, ![r, n]⟩ : Shape).row (ix2 a l) = a.val := rfl
  have e1 : (a.val * w + q) / v = p.val := by
    rw [hp, Nat.mul_comm, Nat.mul_add_div hv, Nat.div_eq_of_lt hu, Nat.add_zero]
  have e2 : (a.val * w + q) % v = u := by
    rw [hp, Nat.mul_comm, Nat.mul_add_mod, Nat.mod_eq_of_lt hu]
  rw [bitcast_getLsbD x h _ q hq hv]
  congr 1
  · congr 1
    funext c
    match c with
    | ⟨0, _⟩ => exact Fin.ext ((h.srcIdx_row _ _ _ ⟨0, Nat.zero_lt_two⟩ rfl).trans e1)
    | ⟨1, _⟩ => exact Fin.ext (h.srcIdx_other _ _ _ ⟨1, Nat.one_lt_two⟩ (by show ¬ 1 + 2 = 2; omega))

/-- Words of four bytes with their middle half-bytes exchanged. -/
def swapped (z : IVec S64x128 32) : IVec S64x128 32 :=
  let u : IVec S64x128 32 := andi (xori z (shrui z (broadcast S64x128 4#32))) (broadcast S64x128 15728880#32)
  xori (xori z u) (shli u (broadcast S64x128 4#32))

/-- The half words of those, transposed. -/
def halves (z : IVec S64x128 32) : IVec S128x128 16 :=
  transpose S128x128 [1, 0] (bitcast S128x128 16 (swapped z) bitcasts_S64x128_w32_S128x128_w16) transposes_S128x128_p1_0_S128x128

/-- The bytes of those. -/
def spread (z : IVec S64x128 32) : IVec S256x128 8 :=
  bitcast S256x128 8 (bitcast S64x128 32 (halves z) bitcasts_S128x128_w16_S64x128_w32) bitcasts_S64x128_w32_S256x128_w8

theorem pay244_eq (v : IVec S256x128 8) : k0_pay244 v = spread (bitcast S64x128 32 v bitcasts_S256x128_w8_S64x128_w32) := rfl

/-- A word with its bits 4–7 and 8–11, and 20–23 and 24–27, exchanged. -/
def swapMid (x : BitVec 32) : BitVec 32 :=
  (x ^^^ ((x ^^^ (x >>> 4)) &&& 15728880#32)) ^^^ (((x ^^^ (x >>> 4)) &&& 15728880#32) <<< 4)

theorem swapMid_getLsbD (x : BitVec 32) (q : ℕ) (hq : q < 32) :
    (swapMid x).getLsbD q = x.getLsbD (if q / 4 % 4 = 1 then q + 4 else if q / 4 % 4 = 2 then q - 4 else q) := by
  unfold swapMid
  have e : ∀ a b : Bool, (a ^^ (b ^^ a)) = b := by decide
  interval_cases q <;> simp [BitVec.getLsbD_xor, BitVec.getLsbD_and, BitVec.getLsbD_shiftLeft, BitVec.getLsbD_ushiftRight, e]

set_option backward.isDefEq.respectTransparency false in
theorem swapped_apply (z : IVec S64x128 32) (a : Fin 64) (l : Fin 128) : swapped z (ix2 a l) = swapMid (z (ix2 a l)) := by
  pointwise [swapped]
  rfl

set_option backward.isDefEq.respectTransparency false in
theorem halves_apply (z : IVec S64x128 32) (a l : Fin 128) :
    halves z (ix2 a l) = bitcast S128x128 16 (swapped z) bitcasts_S64x128_w32_S128x128_w16 (ix2 l a) := by
  pointwise [halves]

theorem spread_getLsbD (z : IVec S64x128 32) (r : Fin 256) (j : Fin 128) (i : ℕ) (hi : i < 8) :
    (spread z (ix2 r j)).getLsbD i = (swapMid (z (ix2 ⟨j / 2, by omega⟩ ⟨r / 2, by omega⟩))).getLsbD (16 * (j.val % 2) + 8 * (r.val % 2) + i) := by
  unfold spread
  rw [bitcast_getLsbD_ix2 _ _ r j i hi ⟨r / 4, by omega⟩ (8 * (r.val % 4) + i) (by omega) (by show r.val * 8 + i = r.val / 4 * 32 + _; omega),
    bitcast_getLsbD_ix2 _ _ _ j _ (by omega) ⟨r / 2, by omega⟩ (8 * (r.val % 2) + i) (by omega) (by show r.val / 4 * 32 + _ = r.val / 2 * 16 + _; omega),
    halves_apply,
    bitcast_getLsbD_ix2 _ _ j _ _ (by omega) ⟨j / 2, by omega⟩ (16 * (j.val % 2) + 8 * (r.val % 2) + i) (by omega) (by show j.val * 16 + _ = j.val / 2 * 32 + _; omega),
    swapped_apply]

theorem pay244_getLsbD (v : IVec S256x128 8) (r : Fin 256) (j : Fin 128) (i : ℕ) (hi : i < 8) :
    (k0_pay244 v (ix2 r j)).getLsbD i = (v (ix2 ⟨2 * j + i / 4, by omega⟩ ⟨r / 2, by omega⟩)).getLsbD (4 * (r.val % 2) + i % 4) := by
  rw [pay244_eq, spread_getLsbD _ _ _ _ hi, swapMid_getLsbD _ _ (by omega)]
  generalize hq : (if (16 * (j.val % 2) + 8 * (r.val % 2) + i) / 4 % 4 = 1 then 16 * (j.val % 2) + 8 * (r.val % 2) + i + 4 else if (16 * (j.val % 2) + 8 * (r.val % 2) + i) / 4 % 4 = 2 then 16 * (j.val % 2) + 8 * (r.val % 2) + i - 4 else 16 * (j.val % 2) + 8 * (r.val % 2) + i) = q
  have hq' : q = 16 * (j.val % 2) + 8 * (i / 4) + 4 * (r.val % 2) + i % 4 := by
    rw [← hq]; split <;> [skip; split] <;> omega
  rw [ix2_eq_valueIdx, bitcast_8_32_getLsbD_ix2 v _ _ _ q (by omega) ⟨2 * j + i / 4, by omega⟩ (by show 2 * j.val + i / 4 = 4 * (j.val / 2) + q / 8; omega),
    ← ix2_eq_valueIdx]
  congr 1
  omega

/-- The bytes stored along the contracted axis, from codes below sixteen. -/
theorem pay244_packed (v : IVec S256x256 32) (h : ∀ r c, (v (ix2 r c)).toNat < 16) (r : Fin 256) (j : Fin 128) :
    k0_pay244 (packed v) (ix2 r j) = pack (v (ix2 r ⟨2 * j, by omega⟩)) (v (ix2 r ⟨2 * j + 1, by omega⟩)) := by
  apply BitVec.eq_of_getLsbD_eq
  intro i hi
  rw [pay244_getLsbD _ _ _ _ hi, packed_apply, pack_getLsbD _ _ (h _ _) _ (by omega), pack_getLsbD _ _ (h _ _) _ hi]
  rcases Nat.mod_two_eq_zero_or_one r.val with hr | hr <;> by_cases h4 : i < 4
  all_goals
    simp only [hr, h4, if_true, if_false, Nat.mul_zero, Nat.mul_one, Nat.zero_add, Nat.not_lt.mpr, show i % 4 < 4 by omega, show ¬ 4 + i % 4 < 4 by omega]
    congr 1
    · congr 1
      congr 1 <;> (apply Fin.ext; simp only []; omega)
    · omega

end Cert.Proof.KernelIdeal

end
-- ==== Proof.S.KVals.lean ====
module

public import proofs.«01_k».proof.Proof.S.KStruct
public import proofs.«01_k».proof.Proof.S.Spec
public import proofs.«01_k».proof.Proof.S.Pays
public import proofs.«01_k».proof.Proof.S.Pays2
public import Idealize.ShloMosaic.Lib.Pipeline.FrameBody
public import Idealize.ShloMosaic.Lib.Pipeline.Value
public import Idealize.ShloMosaic.Lib.Pointwise
public import Idealize.ShloMosaic.Lib.BitcastFour
public import Idealize.ShloMosaic.Lib.Tactic

@[expose] public section

set_option maxRecDepth 16384

noncomputable section

namespace Cert.Proof.KernelIdeal

open Cert.KernelIdeal Cert.KernelIdeal.Gen Cert.Proof.Spec
open Idealize.ShloMosaic Idealize.ShloMosaic.TcCoe Idealize.ShloMosaic.Tactic

/-- An index of two axes from its coordinates. -/
theorem idx2_eq {a b : ℕ} (x : (⟨2, ![a, b]⟩ : Shape).Idx) (i : Fin a) (j : Fin b) (h0 : (x 0).val = i.val) (h1 : (x 1).val = j.val) : x = ix2 i j := by
  funext t
  match t with
  | ⟨0, _⟩ => exact Fin.ext h0
  | ⟨1, _⟩ => exact Fin.ext h1

/-- A cell lies in a rectangle of two axes when its coordinates do. -/
theorem mem_rect2 {a b : ℕ} (off size : Fin 2 → ℕ) (h : ∀ t, off t + size t ≤ (⟨2, ![a, b]⟩ : Shape).size t) (y : (⟨2, ![a, b]⟩ : Shape).Idx)
    (h0 : off 0 ≤ (y 0).val ∧ (y 0).val < off 0 + size 0) (h1 : off 1 ≤ (y 1).val ∧ (y 1).val < off 1 + size 1) :
    y ∈ (Rect.unit (s := ⟨2, ![a, b]⟩) off size h).set := by
  refine Rect.mem_set_unit.mpr fun t => ?_
  match t with
  | ⟨0, _⟩ => exact h0
  | ⟨1, _⟩ => exact h1

theorem col_eq : ∀ k : Fin k0_t1_loop.trips, k0_off1 k 1 = 256 * k.val := by decide +kernel

theorem trips_lt (k : Fin k0_t1_loop.trips) : k.val < 24 := by
  have : k0_t1_loop.trips = 24 := by decide +kernel
  have := k.isLt
  omega

/-- The weight block's contents are the numbers `B`. -/
def Holds (c : Dev nD) (arg3 : Memref sig .tc .vmem S512x6144 .bf16) (f3 : Bf (F := Ideal) c arg3) (B : ℕ → ℕ → EReal) : Prop :=
  ∀ (r : Fin 512) (q : Fin 6144), arg3.view.read (Elt Ideal) f3 (ix2 r q) = B r q

variable {c : Dev nD} {arg3 : Memref sig .tc .vmem S512x6144 .bf16} {f3 : Bf (F := Ideal) c arg3} {B : ℕ → ℕ → EReal}

theorem wBlk_apply (hB : Holds c arg3 f3 B) (k : Fin k0_t1_loop.trips) (b : Fin 32) (i : Fin 16) (l : Fin 256) :
    wBlk (F := Ideal) c arg3 k f3 b (ix2 i l) = B (16 * b + i) (256 * k + l) := by
  have hk := trips_lt k
  unfold wBlk
  rw [View.readAt_apply]
  refine (congrArg (arg3.view.read (Elt Ideal) f3) (idx2_eq (a := 512) (b := 6144) _ ⟨16 * b + i, by omega⟩ ⟨256 * k + l, by omega⟩ ?_ ?_)).trans (hB _ _)
  · show 16 * b.val + 1 * i.val = _
    simp
  · show k0_off1 k 1 + 1 * l.val = _
    rw [col_eq]; simp

/-- The half-block maxima of a trip: the larger of the rows eight apart. -/
def hmax (B : ℕ → ℕ → EReal) (k row l : ℕ) : EReal :=
  max (mag (B (16 * (row / 16) + row % 8) (256 * k + 128 * (row / 8 % 2) + l))) (mag (B (16 * (row / 16) + 8 + row % 8) (256 * k + 128 * (row / 8 % 2) + l)))

theorem canon10 (hB : Holds c arg3 f3 B) (k : Fin k0_t1_loop.trips) (y : S512x128.Idx) :
    View.canon (trip.sl.H10_64 (F := Ideal) c arg3 k f3) y = hmax B k (y 0).val (y 1).val := by
  have hk := trips_lt k
  rw [H10_eq]
  refine View.canon_apply_of_pieces (Val := Elt Ideal) (e := .bf16) (fun y : S512x128.Idx => (hmax B k (y 0).val (y 1).val : EReal)) _ ?_ y ?_
  · intro p hp x
    obtain ⟨n, rfl⟩ := List.mem_ofFn.mp hp
    generalize n.rev = m
    have hm := m.isLt
    show (if m.val % 2 = 0 then k0_pay2 (wBlk (F := Ideal) c arg3 k f3 ⟨m / 2, by omega⟩) else k0_pay3 (wBlk (F := Ideal) c arg3 k f3 ⟨m / 2, by omega⟩)) x = hmax B k (8 * m.val + 1 * (x 0).val) (0 + 1 * (x 1).val)
    have h0 : (x 0).val < 8 := (x 0).isLt
    have h1 : (x 1).val < 128 := (x 1).isLt
    rw [idx2_eq (a := 8) (b := 128) x ⟨(x 0).val, h0⟩ ⟨(x 1).val, h1⟩ rfl rfl]
    generalize (x 0).val = i at h0
    generalize (x 1).val = l at h1
    have e1 : (8 * m.val + 1 * i) / 16 = m / 2 := by omega
    have e2 : (8 * m.val + 1 * i) % 8 = i := by omega
    have e3 : (8 * m.val + 1 * i) / 8 % 2 = m % 2 := by omega
    unfold hmax
    rw [show (ix2 (⟨i, h0⟩ : Fin 8) (⟨l, h1⟩ : Fin 128) 0).val = i from rfl, show (ix2 (⟨i, h0⟩ : Fin 8) (⟨l, h1⟩ : Fin 128) 1).val = l from rfl, e1, e2, e3]
    rcases Nat.mod_two_eq_zero_or_one m.val with h | h
    · rw [if_pos h, pay2_apply, wBlk_apply hB, wBlk_apply hB, h]
      simp only [Nat.mul_zero, Nat.add_zero, Nat.zero_add, Nat.one_mul, Nat.add_assoc]
    · rw [if_neg (by omega), pay3_apply, wBlk_apply hB, wBlk_apply hB, h]
      simp only [Nat.mul_one, Nat.add_zero, Nat.zero_add, Nat.one_mul, Nat.add_assoc]
  · have h0 : (y 0).val < 512 := (y 0).isLt
    have h1 : (y 1).val < 128 := (y 1).isLt
    refine ⟨piece10 c arg3 k f3 ⟨(y 0).val / 8, by omega⟩, List.mem_ofFn.mpr ⟨(⟨(y 0).val / 8, by omega⟩ : Fin 64).rev, by rw [Fin.rev_rev]⟩, ?_⟩
    refine mem_rect2 (a := 512) (b := 128) _ _ (inb8 64 ⟨(y 0).val / 8, by omega⟩) y ?_ ?_
    · show 8 * ((y 0).val / 8) ≤ (y 0).val ∧ (y 0).val < 8 * ((y 0).val / 8) + 8; omega
    · show 0 ≤ (y 1).val ∧ (y 1).val < 0 + 128; omega

set_option backward.isDefEq.respectTransparency false in
theorem rawM_apply (hB : Holds c arg3 f3 B) (arg10 : Memref sig .tc .vmem S512x128 .bf16) (harg10 : arg10.IsWhole) (k : Fin k0_t1_loop.trips) (g : Fin 8) (s : Fin 4) (i : Fin 8) (a : Fin 2) (l : Fin 128) :
    rawM (F := Ideal) c arg3 arg10 harg10 k f3 g s (ix3 i a l) = hmax B k (64 * g + 2 * s + 8 * i + a) l := by
  unfold rawM
  rw [View.readAt_apply]
  have e : ∀ x : S256x2x128.Idx, (arg10.reshape S256x2x128 k0_part12_skel._proof_8 k0_part12_skel._proof_9 harg10.contiguous).view.read (Elt Ideal) (arg10.view.writes (Elt Ideal) arg10.view.junk (trip.sl.H10_64 c arg3 k f3)) x
      = shapeCast S256x2x128 (fun y : S512x128.Idx => hmax B k (y 0).val (y 1).val) k0_part12_skel._proof_8 x := fun x => by
    show arg10.view.read (Elt Ideal) (arg10.view.writes (Elt Ideal) arg10.view.junk (trip.sl.H10_64 c arg3 k f3)) (Shape.reshapeEquiv _ x) = _
    rw [View.read_writes_junk_apply_eq_canon, canon10 hB]
    rfl
  rw [e]
  have hx : ({ off := ![32 * g.val + s.val, 0, 0], size := S8x2x128.size, stride := ![4, 1, 1], inb := rawInb g s } : LoadRect S256x2x128).idx (ix3 i a l) = ix3 (n0 := 256) (n1 := 2) (n2 := 128) ⟨32 * g.val + s.val + 4 * i.val, by omega⟩ a l := by
    funext t
    match t with
    | ⟨0, _⟩ => rfl
    | ⟨1, _⟩ => exact Fin.ext (by show 0 + 1 * a.val = a.val; omega)
    | ⟨2, _⟩ => exact Fin.ext (by show 0 + 1 * l.val = l.val; omega)
  rw [hx]
  pointwise []
  congr 1
  omega

/-- What is at most `z` in the rows the half-block maxima of a row pair come from. -/
theorem hmax_le (k row l : ℕ) (z : EReal) :
    hmax B k row l ≤ z ↔ mag (B (16 * (row / 16) + row % 8) (256 * k + 128 * (row / 8 % 2) + l)) ≤ z
      ∧ mag (B (16 * (row / 16) + 8 + row % 8) (256 * k + 128 * (row / 8 % 2) + l)) ≤ z := max_le_iff

theorem colMax_le (hB : Holds c arg3 f3 B) (arg10 : Memref sig .tc .vmem S512x128 .bf16) (harg10 : arg10.IsWhole) (k : Fin k0_t1_loop.trips) (g i : Fin 8) (l : Fin 128) (z : EReal) :
    colMax (F := Ideal) c arg3 arg10 harg10 k f3 g (ix2 i l) ≤ z
      ↔ ∀ j < 16, mag (B (16 * ((8 * g + i) / 2) + j) (256 * k + 128 * (i % 2) + l)) ≤ z := by
  have hg := g.isLt
  have hi := i.isLt
  unfold colMax
  rw [pay107_apply]
  simp only [rawM_apply hB, max_le_iff]
  have e : ∀ (s : Fin 4) (a : Fin 2), hmax B k (64 * g.val + 2 * s.val + 8 * i.val + a.val) l ≤ z
      ↔ mag (B (16 * ((8 * g + i) / 2) + (2 * s + a)) (256 * k + 128 * (i % 2) + l)) ≤ z ∧ mag (B (16 * ((8 * g + i) / 2) + (8 + (2 * s + a))) (256 * k + 128 * (i % 2) + l)) ≤ z := by
    intro s a
    have hs := s.isLt
    have ha := a.isLt
    rw [hmax_le, show (64 * g.val + 2 * s.val + 8 * i.val + a.val) / 16 = (8 * g.val + i.val) / 2 by omega, show (64 * g.val + 2 * s.val + 8 * i.val + a.val) % 8 = 2 * s.val + a.val by omega,
      show (64 * g.val + 2 * s.val + 8 * i.val + a.val) / 8 % 2 = i.val % 2 by omega, Nat.add_assoc (16 * ((8 * g.val + i.val) / 2)) 8]
  have f : ∀ s a, hmax B k (64 * g.val + 2 * (s : Fin 4).val + 8 * i.val + (a : Fin 2).val) l ≤ z ↔ _ := e
  rw [f 0 0, f 1 0, f 2 0, f 3 0, f 0 1, f 1 1, f 2 1, f 3 1]
  constructor
  · rintro ⟨⟨⟨h0, h1⟩, ⟨h2, h3⟩⟩, ⟨⟨h4, h5⟩, ⟨h6, h7⟩⟩⟩ j hj
    interval_cases j
    · exact h0.1
    · exact h4.1
    · exact h1.1
    · exact h5.1
    · exact h2.1
    · exact h6.1
    · exact h3.1
    · exact h7.1
    · exact h0.2
    · exact h4.2
    · exact h1.2
    · exact h5.2
    · exact h2.2
    · exact h6.2
    · exact h3.2
    · exact h7.2
  · intro h
    exact ⟨⟨⟨⟨h 0 (by omega), h 8 (by omega)⟩, ⟨h 2 (by omega), h 10 (by omega)⟩⟩, ⟨⟨h 4 (by omega), h 12 (by omega)⟩, ⟨h 6 (by omega), h 14 (by omega)⟩⟩⟩,
      ⟨⟨⟨h 1 (by omega), h 9 (by omega)⟩, ⟨h 3 (by omega), h 11 (by omega)⟩⟩, ⟨⟨h 5 (by omega), h 13 (by omega)⟩, ⟨h 7 (by omega), h 15 (by omega)⟩⟩⟩⟩

/-- A group's block maxima are the blocks' maxima. -/
theorem blkMax_apply (hB : Holds c arg3 f3 B) (arg10 : Memref sig .tc .vmem S512x128 .bf16) (harg10 : arg10.IsWhole) (k : Fin k0_t1_loop.trips) (g i : Fin 8) (l : Fin 128) :
    blkMax (F := Ideal) c arg3 arg10 harg10 k f3 g (ix2 i l) = bam B ((8 * g + i) / 2) (16 * k + 8 * (i % 2) + l / 16) := by
  refine eq_of_forall_ge_iff fun z => ?_
  unfold blkMax
  rw [bam_le_iff]
  refine (pay109_le (colMax (F := Ideal) c arg3 arg10 harg10 k f3 g) i l z).trans ?_
  constructor
  · intro h a ha b hb
    have := (colMax_le hB arg10 harg10 k g i _ z).mp (h b hb) a ha
    rwa [show 16 * (16 * k.val + 8 * (i.val % 2) + l.val / 16) + b = 256 * k.val + 128 * (i.val % 2) + (16 * (l.val / 16) + b) by omega]
  · intro h b hb
    refine (colMax_le hB arg10 harg10 k g i _ z).mpr fun a ha => ?_
    have := h a ha b hb
    rwa [show 16 * (16 * k.val + 8 * (i.val % 2) + l.val / 16) + b = 256 * k.val + 128 * (i.val % 2) + (16 * (l.val / 16) + b) by omega] at this

/-- The scale in row `n` and lane `l` of a trip's scales. -/
def sRow (st : EReal) (B : ℕ → ℕ → EReal) (k n l : ℕ) : EReal := sB st B (n / 2) (16 * k + 8 * (n % 2) + l / 16)

variable {v0 : Vec Ideal S1x24 .f32}

/-- The tensor scale the kernel computes. -/
def kst (v0 : Vec Ideal S1x24 .f32) : EReal := stOf fun j => v0 (ix2 0 j)

theorem quo_apply (hB : Holds c arg3 f3 B) (arg10 : Memref sig .tc .vmem S512x128 .bf16) (harg10 : arg10.IsWhole) (k : Fin k0_t1_loop.trips) (g i : Fin 8) (l : Fin 128) :
    k0_pay112 (quo (F := Ideal) c arg3 arg10 harg10 v0 k f3 g) (FloatOps.ofBits FTy.f32 1138753536#32) (ix2 i l) = sRow (kst v0) B k (8 * g + i) l := by
  have h := blkMax_apply hB arg10 harg10 k g i l
  unfold blkMax at h
  unfold quo sRow sB
  rw [pay112_apply, pay380_apply, h, show (8 * g.val + i.val) % 2 = i.val % 2 by omega]
  rfl

theorem canon12 (hB : Holds c arg3 f3 B) (arg10 : Memref sig .tc .vmem S512x128 .bf16) (harg10 : arg10.IsWhole) (k : Fin k0_t1_loop.trips) (y : S64x128.Idx) :
    View.canon (trip.sl.H12_8 (F := Ideal) c arg3 arg10 harg10 v0 k f3) y = sRow (kst v0) B k (y 0).val (y 1).val := by
  rw [H12_eq]
  refine View.canon_apply_of_pieces (Val := Elt Ideal) (e := .f32) (fun y : S64x128.Idx => (sRow (kst v0) B k (y 0).val (y 1).val : EReal)) _ ?_ y ?_
  · intro p hp x
    obtain ⟨n, rfl⟩ := List.mem_ofFn.mp hp
    generalize n.rev = m
    have h0 : (x 0).val < 8 := (x 0).isLt
    have h1 : (x 1).val < 128 := (x 1).isLt
    show k0_pay114 (quo (F := Ideal) c arg3 arg10 harg10 v0 k f3 m) (FloatOps.ofBits FTy.f32 1138753536#32) x = sRow (kst v0) B k (8 * m.val + 1 * (x 0).val) (0 + 1 * (x 1).val)
    rw [Nat.one_mul, Nat.one_mul, Nat.zero_add]
    refine (congrArg _ (idx2_eq (a := 8) (b := 128) x ⟨(x 0).val, h0⟩ ⟨(x 1).val, h1⟩ rfl rfl)).trans ?_
    rw [pay114_apply, quo_apply hB]
  · have h0 : (y 0).val < 64 := (y 0).isLt
    have h1 : (y 1).val < 128 := (y 1).isLt
    refine ⟨piece12 c arg3 arg10 harg10 v0 k f3 ⟨(y 0).val / 8, by omega⟩, List.mem_ofFn.mpr ⟨(⟨(y 0).val / 8, by omega⟩ : Fin 8).rev, by rw [Fin.rev_rev]⟩, ?_⟩
    refine mem_rect2 (a := 64) (b := 128) _ _ (inb8 8 ⟨(y 0).val / 8, by omega⟩) y ?_ ?_
    · show 8 * ((y 0).val / 8) ≤ (y 0).val ∧ (y 0).val < 8 * ((y 0).val / 8) + 8; omega
    · show 0 ≤ (y 1).val ∧ (y 1).val < 0 + 128; omega

theorem canon11 (hB : Holds c arg3 f3 B) (arg10 : Memref sig .tc .vmem S512x128 .bf16) (harg10 : arg10.IsWhole) (k : Fin k0_t1_loop.trips) (y : S64x128.Idx) :
    View.canon (trip.sl.H11_8 (F := Ideal) c arg3 arg10 harg10 v0 k f3) y = rcOf (kst v0) (sRow (kst v0) B k (y 0).val (y 1).val) := by
  rw [H11_eq]
  refine View.canon_apply_of_pieces (Val := Elt Ideal) (e := .f32) (fun y : S64x128.Idx => (rcOf (kst v0) (sRow (kst v0) B k (y 0).val (y 1).val) : EReal)) _ ?_ y ?_
  · intro p hp x
    obtain ⟨n, rfl⟩ := List.mem_ofFn.mp hp
    generalize n.rev = m
    have h0 : (x 0).val < 8 := (x 0).isLt
    have h1 : (x 1).val < 128 := (x 1).isLt
    show k0_pay113 (k0_pay380 v0) (quo (F := Ideal) c arg3 arg10 harg10 v0 k f3 m) (FloatOps.ofBits FTy.f32 1138753536#32) x = rcOf (kst v0) (sRow (kst v0) B k (8 * m.val + 1 * (x 0).val) (0 + 1 * (x 1).val))
    rw [Nat.one_mul, Nat.one_mul, Nat.zero_add]
    refine (congrArg _ (idx2_eq (a := 8) (b := 128) x ⟨(x 0).val, h0⟩ ⟨(x 1).val, h1⟩ rfl rfl)).trans ?_
    rw [pay113_apply, pay380_apply, quo_apply hB]
    rfl
  · have h0 : (y 0).val < 64 := (y 0).isLt
    have h1 : (y 1).val < 128 := (y 1).isLt
    refine ⟨piece11 c arg3 arg10 harg10 v0 k f3 ⟨(y 0).val / 8, by omega⟩, List.mem_ofFn.mpr ⟨(⟨(y 0).val / 8, by omega⟩ : Fin 8).rev, by rw [Fin.rev_rev]⟩, ?_⟩
    refine mem_rect2 (a := 64) (b := 128) _ _ (inb8 8 ⟨(y 0).val / 8, by omega⟩) y ?_ ?_
    · show 8 * ((y 0).val / 8) ≤ (y 0).val ∧ (y 0).val < 8 * ((y 0).val / 8) + 8; omega
    · show 0 ≤ (y 1).val ∧ (y 1).val < 0 + 128; omega

theorem rowR_apply (hB : Holds c arg3 f3 B) (arg10 : Memref sig .tc .vmem S512x128 .bf16) (harg10 : arg10.IsWhole) (arg11 : Memref sig .tc .vmem S64x128 .f32) (k : Fin k0_t1_loop.trips) (n : Fin 64) (i : Fin 8) (l : Fin 128) :
    rowR (F := Ideal) c arg3 arg10 harg10 arg11 v0 k f3 n (ix2 i l) = rcOf (kst v0) (sRow (kst v0) B k n l) := by
  unfold rowR
  refine (congrFun (View.readCov_eq_canon' _ _ _) _).trans ((canon11 hB arg10 harg10 k _).trans ?_)
  congr 2
  · show n.val + 0 * i.val = n.val; omega
  · show 0 + 1 * l.val = l.val; omega

theorem rowS_apply (hB : Holds c arg3 f3 B) (arg10 : Memref sig .tc .vmem S512x128 .bf16) (harg10 : arg10.IsWhole) (arg12 : Memref sig .tc .vmem S64x128 .f32) (k : Fin k0_t1_loop.trips) (n : Fin 64) (i : Fin 8) (l : Fin 128) :
    rowS (F := Ideal) c arg3 arg10 harg10 arg12 v0 k f3 n (ix2 i l) = sRow (kst v0) B k n l := by
  unfold rowS
  refine (congrFun (View.readCov_eq_canon' _ _ _) _).trans ((canon12 hB arg10 harg10 k _).trans ?_)
  congr 1
  · show n.val + 0 * i.val = n.val; omega
  · show 0 + 1 * l.val = l.val; omega

theorem allS_apply (hB : Holds c arg3 f3 B) (arg10 : Memref sig .tc .vmem S512x128 .bf16) (harg10 : arg10.IsWhole) (arg12 : Memref sig .tc .vmem S64x128 .f32) (k : Fin k0_t1_loop.trips) (n : Fin 64) (l : Fin 128) :
    allS (F := Ideal) c arg3 arg10 harg10 arg12 v0 k f3 (ix2 n l) = sRow (kst v0) B k n l := by
  unfold allS
  refine (congrFun (View.readCov_eq_canon' _ _ _) _).trans ((canon12 hB arg10 harg10 k _).trans ?_)
  congr 1
  · show 0 + 1 * n.val = n.val; omega
  · show 0 + 1 * l.val = l.val; omega

theorem band_apply (hB : Holds c arg3 f3 B) (arg10 : Memref sig .tc .vmem S512x128 .bf16) (harg10 : arg10.IsWhole) (arg11 : Memref sig .tc .vmem S64x128 .f32) (k : Fin k0_t1_loop.trips) (n : Fin 64) (i : Fin 8) (l : Fin 256) :
    band (F := Ideal) c arg3 arg10 harg10 arg11 v0 k f3 n (ix2 i l) = vB (kst v0) B (8 * n + i) (256 * k + l) := by
  have hn := n.isLt
  have hi := i.isLt
  have hl := l.isLt
  have key : (if h : l.val < 128 then rowR (F := Ideal) c arg3 arg10 harg10 arg11 v0 k f3 ⟨2 * (n.val / 2), by omega⟩ (ix2 i ⟨l, h⟩) else rowR (F := Ideal) c arg3 arg10 harg10 arg11 v0 k f3 ⟨2 * (n.val / 2) + 1, by omega⟩ (ix2 i ⟨l - 128, by omega⟩))
      = rcOf (kst v0) (sB (kst v0) B ((8 * n.val + i.val) / 16) ((256 * k.val + l.val) / 16)) := by
    split
    · rw [rowR_apply hB]
      unfold sRow
      congr 2 <;> dsimp only <;> omega
    · rw [rowR_apply hB]
      unfold sRow
      congr 2 <;> dsimp only <;> omega
  unfold band
  split
  · rw [pay183_apply, key, wBlk_apply hB]
    unfold vB
    congr 2
    dsimp only; omega
  · rw [pay184_apply, key, wBlk_apply hB]
    unfold vB
    congr 2
    dsimp only; omega

set_option backward.isDefEq.respectTransparency false in
theorem addf_zero (x : FVec Ideal S256x256 .f32) (r q : Fin 256) :
    addf x (broadcast S256x256 (Scalar.ofBits (F := Ideal) .f32 0x00000000#32)) (ix2 r q) = x (ix2 r q) := by
  pointwise []

theorem quots_apply (hB : Holds c arg3 f3 B) (arg10 : Memref sig .tc .vmem S512x128 .bf16) (harg10 : arg10.IsWhole) (arg11 : Memref sig .tc .vmem S64x128 .f32) (k : Fin k0_t1_loop.trips) (p : Fin 2) (r q : Fin 256) :
    quots (F := Ideal) c arg3 arg10 harg10 arg11 v0 k f3 p (ix2 r q) = vB (kst v0) B (256 * p + r) (256 * k + q) := by
  have hp := p.isLt
  have hr := r.isLt
  unfold quots
  have h := concatenate_ofFn_apply (t := S256x256) (s₁ := S8x256) 0 (fun n : Fin 32 => band (F := Ideal) c arg3 arg10 harg10 arg11 v0 k f3 ⟨32 * p.val + n.val, by omega⟩)
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0
    rfl 8 rfl (ix2 r q) ⟨r / 8, by omega⟩ rfl (ix2 ⟨r % 8, by omega⟩ q) rfl (fun b hb => by
      match b with
      | ⟨0, _⟩ => exact absurd rfl hb
      | ⟨1, _⟩ => rfl)
  rw [addf_zero, h, band_apply hB]
  congr 1
  dsimp only
  omega

end Cert.Proof.KernelIdeal

end
-- ==== Proof.S.KVals2.lean ====
module

public import proofs.«01_k».proof.Proof.S.KStruct
public import proofs.«01_k».proof.Proof.S.Spec
public import proofs.«01_k».proof.Proof.S.KVals
public import proofs.«01_k».proof.Proof.S.Pays
public import proofs.«01_k».proof.Proof.S.Pays2
public import Idealize.ShloMosaic.Lib.Pipeline.FrameBody
public import Idealize.ShloMosaic.Lib.Pipeline.Value
public import Idealize.ShloMosaic.Lib.Pointwise
public import Idealize.ShloMosaic.Lib.BitcastFour
public import Idealize.ShloMosaic.Lib.Tactic

@[expose] public section

set_option maxRecDepth 16384

noncomputable section

namespace Cert.Proof.KernelIdeal

open Cert.KernelIdeal Cert.KernelIdeal.Gen Cert.Proof.Spec
open Idealize.ShloMosaic Idealize.ShloMosaic.TcCoe Idealize.ShloMosaic.Tactic

variable {c : Dev nD} {arg3 : Memref sig .tc .vmem S512x6144 .bf16} {f3 : Bf (F := Ideal) c arg3} {B : ℕ → ℕ → EReal} {v0 : Vec Ideal S1x24 .f32}

theorem off33_eq : ∀ k : Fin k0_t1_loop.trips, k0_off33 k 0 = 256 * k.val ∧ k0_off33 k 1 = 0 := by decide +kernel
theorem off35_eq : ∀ k : Fin k0_t1_loop.trips, k0_off35 k 0 = 256 * k.val ∧ k0_off35 k 1 = 128 := by decide +kernel
theorem off34_eq : ∀ k : Fin k0_t1_loop.trips, k0_off34 k 0 = 0 ∧ k0_off34 k 1 = 128 * k.val := by decide +kernel
theorem off36_eq : ∀ k : Fin k0_t1_loop.trips, k0_off36 k 0 = 256 ∧ k0_off36 k 1 = 128 * k.val := by decide +kernel

/-- A cell before a rectangle along one axis lies outside it. -/
theorem not_mem_rect2 {a b : ℕ} (off size : Fin 2 → ℕ) (h : ∀ t, off t + size t ≤ (⟨2, ![a, b]⟩ : Shape).size t) (y : (⟨2, ![a, b]⟩ : Shape).Idx) (t : Fin 2)
    (ht : (y t).val < off t) : y ∉ (Rect.unit (s := ⟨2, ![a, b]⟩) off size h).set := fun hy => by
  have := (Rect.mem_set_unit.mp hy t).1
  omega

/-- Codes packed along the rows' pairs: byte `m` of column `q`. -/
def cnB (st : EReal) (B : ℕ → ℕ → EReal) (q m : ℕ) : BitVec 8 := pack (cB st B (2 * m) q) (cB st B (2 * m + 1) q)

/-- Codes packed along the columns' pairs: byte `m` of row `r`. -/
def ckB (st : EReal) (B : ℕ → ℕ → EReal) (r m : ℕ) : BitVec 8 := pack (cB st B r (2 * m)) (cB st B r (2 * m + 1))

section

variable (hB : Holds c arg3 f3 B) (arg10 : Memref sig .tc .vmem S512x128 .bf16) (harg10 : arg10.IsWhole) (arg11 : Memref sig .tc .vmem S64x128 .f32) (arg12 : Memref sig .tc .vmem S64x128 .f32) (k : Fin k0_t1_loop.trips)

include hB

theorem codes_quots (p : Fin 2) (r q : Fin 256) :
    codes (quots (F := Ideal) c arg3 arg10 harg10 arg11 v0 k f3 p) (ix2 r q) = cB (kst v0) B (256 * p + r) (256 * k + q) := by
  rw [codes_apply, quots_apply hB]
  rfl

theorem packed_quots (p : Fin 2) (r : Fin 256) (j : Fin 128) :
    packed (codes (quots (F := Ideal) c arg3 arg10 harg10 arg11 v0 k f3 p)) (ix2 r j) = cnB (kst v0) B (256 * k + r) (128 * p + j) := by
  rw [packed_apply, codes_quots hB, codes_quots hB]
  unfold cnB
  congr 2 <;> dsimp only <;> omega

theorem packedT_quots (p : Fin 2) (r : Fin 256) (j : Fin 128) :
    k0_pay244 (packed (codes (quots (F := Ideal) c arg3 arg10 harg10 arg11 v0 k f3 p))) (ix2 r j) = ckB (kst v0) B (256 * p + r) (128 * k + j) := by
  rw [pay244_packed _ (fun r q => by rw [codes_quots hB]; exact code_lt _), codes_quots hB, codes_quots hB]
  unfold ckB
  congr 2 <;> dsimp only <;> omega

/-- The transposed codes: a trip adds its 256 rows. -/
theorem cn_step (arg6 : Memref sig .tc .vmem S6144x256 .i8) (f6 : Bf (F := Ideal) c arg6)
    (h6 : ∀ y : S6144x256.Idx, (y 0).val < 256 * k.val → arg6.view.read (Elt Ideal) f6 y = cnB (kst v0) B (y 0).val (y 1).val)
    (y : S6144x256.Idx) (hy : (y 0).val < 256 * (k.val + 1)) :
    arg6.view.read (Elt Ideal) (arg6.view.writes (Elt Ideal) f6 (trip.sl.H6_2 (F := Ideal) c arg3 arg10 harg10 arg11 v0 k f3)) y = cnB (kst v0) B (y 0).val (y 1).val := by
  have h1 : (y 1).val < 256 := (y 1).isLt
  rw [H6_eq, r87_eq, r131_eq]
  by_cases hlt : (y 0).val < 256 * k.val
  · rw [View.read_writes_apply_of_forall_not_mem]
    · exact h6 y hlt
    · intro p hp
      simp only [List.mem_cons, List.not_mem_nil, or_false] at hp
      rcases hp with rfl | rfl
      · refine not_mem_rect2 _ _ (k0_off35_inb k) y 0 ?_
        show (y 0).val < k0_off35 k 0
        rw [(off35_eq k).1]; exact hlt
      · refine not_mem_rect2 _ _ (k0_off33_inb k) y 0 ?_
        show (y 0).val < k0_off33 k 0
        rw [(off33_eq k).1]; exact hlt
  · refine View.read_writes_apply_of_pieces (Val := Elt Ideal) arg6.view f6 (fun y : S6144x256.Idx => (cnB (kst v0) B (y 0).val (y 1).val : Elt Ideal .i8)) _ ?_ y ?_
    · intro p hp x
      simp only [List.mem_cons, List.not_mem_nil, or_false] at hp
      have hx0 : (x 0).val < 256 := by rcases hp with rfl | rfl <;> exact (x 0).isLt
      have hx1 : (x 1).val < 128 := by rcases hp with rfl | rfl <;> exact (x 1).isLt
      rcases hp with rfl | rfl
      · refine (congrArg _ (idx2_eq (a := 256) (b := 128) x ⟨(x 0).val, hx0⟩ ⟨(x 1).val, hx1⟩ rfl rfl)).trans ((packed_quots hB arg10 harg10 arg11 k 1 _ _).trans ?_)
        show _ = cnB (kst v0) B (k0_off35 k 0 + 1 * (x 0).val) (k0_off35 k 1 + 1 * (x 1).val)
        rw [(off35_eq k).1, (off35_eq k).2, Nat.one_mul, Nat.one_mul]
        rfl
      · refine (congrArg _ (idx2_eq (a := 256) (b := 128) x ⟨(x 0).val, hx0⟩ ⟨(x 1).val, hx1⟩ rfl rfl)).trans ((packed_quots hB arg10 harg10 arg11 k 0 _ _).trans ?_)
        show _ = cnB (kst v0) B (k0_off33 k 0 + 1 * (x 0).val) (k0_off33 k 1 + 1 * (x 1).val)
        rw [(off33_eq k).1, (off33_eq k).2, Nat.one_mul, Nat.one_mul]
        rfl
    · by_cases hh : (y 1).val < 128
      · refine ⟨_, List.mem_cons_of_mem _ List.mem_cons_self, mem_rect2 (a := 6144) (b := 256) _ _ (k0_off33_inb k) y ?_ ?_⟩
        · rw [(off33_eq k).1]; show _ ∧ _ < _ + 256; omega
        · rw [(off33_eq k).2]; show _ ∧ _ < 0 + 128; omega
      · refine ⟨_, List.mem_cons_self, mem_rect2 (a := 6144) (b := 256) _ _ (k0_off35_inb k) y ?_ ?_⟩
        · rw [(off35_eq k).1]; show _ ∧ _ < _ + 256; omega
        · rw [(off35_eq k).2]; show _ ∧ _ < 128 + 128; omega

/-- The codes: a trip adds its 128 columns of bytes. -/
theorem ck_step (arg5 : Memref sig .tc .vmem S512x3072 .i8) (f5 : Bf (F := Ideal) c arg5)
    (h5 : ∀ y : S512x3072.Idx, (y 1).val < 128 * k.val → arg5.view.read (Elt Ideal) f5 y = ckB (kst v0) B (y 0).val (y 1).val)
    (y : S512x3072.Idx) (hy : (y 1).val < 128 * (k.val + 1)) :
    arg5.view.read (Elt Ideal) (arg5.view.writes (Elt Ideal) f5 (trip.sl.H5_2 (F := Ideal) c arg3 arg10 harg10 arg11 v0 k f3)) y = ckB (kst v0) B (y 0).val (y 1).val := by
  have h0 : (y 0).val < 512 := (y 0).isLt
  rw [H5_eq, r87_eq, r131_eq]
  by_cases hlt : (y 1).val < 128 * k.val
  · rw [View.read_writes_apply_of_forall_not_mem]
    · exact h5 y hlt
    · intro p hp
      simp only [List.mem_cons, List.not_mem_nil, or_false] at hp
      rcases hp with rfl | rfl
      · refine not_mem_rect2 _ _ (k0_off36_inb k) y 1 ?_
        show (y 1).val < k0_off36 k 1
        rw [(off36_eq k).2]; exact hlt
      · refine not_mem_rect2 _ _ (k0_off34_inb k) y 1 ?_
        show (y 1).val < k0_off34 k 1
        rw [(off34_eq k).2]; exact hlt
  · refine View.read_writes_apply_of_pieces (Val := Elt Ideal) arg5.view f5 (fun y : S512x3072.Idx => (ckB (kst v0) B (y 0).val (y 1).val : Elt Ideal .i8)) _ ?_ y ?_
    · intro p hp x
      simp only [List.mem_cons, List.not_mem_nil, or_false] at hp
      have hx0 : (x 0).val < 256 := by rcases hp with rfl | rfl <;> exact (x 0).isLt
      have hx1 : (x 1).val < 128 := by rcases hp with rfl | rfl <;> exact (x 1).isLt
      rcases hp with rfl | rfl
      · refine (congrArg _ (idx2_eq (a := 256) (b := 128) x ⟨(x 0).val, hx0⟩ ⟨(x 1).val, hx1⟩ rfl rfl)).trans ((packedT_quots hB arg10 harg10 arg11 k 1 _ _).trans ?_)
        show _ = ckB (kst v0) B (k0_off36 k 0 + 1 * (x 0).val) (k0_off36 k 1 + 1 * (x 1).val)
        rw [(off36_eq k).1, (off36_eq k).2, Nat.one_mul, Nat.one_mul]
        rfl
      · refine (congrArg _ (idx2_eq (a := 256) (b := 128) x ⟨(x 0).val, hx0⟩ ⟨(x 1).val, hx1⟩ rfl rfl)).trans ((packedT_quots hB arg10 harg10 arg11 k 0 _ _).trans ?_)
        show _ = ckB (kst v0) B (k0_off34 k 0 + 1 * (x 0).val) (k0_off34 k 1 + 1 * (x 1).val)
        rw [(off34_eq k).1, (off34_eq k).2, Nat.one_mul, Nat.one_mul]
        rfl
    · by_cases hh : (y 0).val < 256
      · refine ⟨_, List.mem_cons_of_mem _ List.mem_cons_self, mem_rect2 (a := 512) (b := 3072) _ _ (k0_off34_inb k) y ?_ ?_⟩
        · rw [(off34_eq k).1]; show _ ∧ _ < 0 + 256; omega
        · rw [(off34_eq k).2]; show _ ∧ _ < _ + 128; omega
      · refine ⟨_, List.mem_cons_self, mem_rect2 (a := 512) (b := 3072) _ _ (k0_off36_inb k) y ?_ ?_⟩
        · rw [(off36_eq k).1]; show _ ∧ _ < 256 + 256; omega
        · rw [(off36_eq k).2]; show _ ∧ _ < _ + 128; omega

omit hB in
set_option backward.isDefEq.respectTransparency false in
/-- A block's decoded rows, from the values and the two rows of scales. -/
theorem band13_apply (v : FVec Ideal S256x256 .bf16) (a b : Vec Ideal S8x128 .f32) (m : ℕ) (hm : S256x256.Slices ![16 * m, 0] S16x256) (hm16 : m < 16) (i : Fin 16) (l : Fin 256) :
    shapeCast S16x256 (mulf (extractStridedSlice S16x256 ![16 * m, 0] v hm)
      (truncf .bf16 (concatenate S16x256 0 [⟨S8x256, concatenate S8x256 1 [⟨S8x128, a⟩, ⟨S8x128, b⟩] concatenates_S8x128_S8x128_S8x256_d1⟩, ⟨S8x256, concatenate S8x256 1 [⟨S8x128, a⟩, ⟨S8x128, b⟩] concatenates_S8x128_S8x128_S8x256_d1⟩] concatenates_S8x256_S8x256_S16x256_d0)
        bitsLt_bf16_f32)) shapeCasts_S16x256_S16x256 (ix2 i l)
      = v (ix2 ⟨16 * m + i, by omega⟩ l) * (if h : l.val < 128 then a (ix2 ⟨i % 8, by omega⟩ ⟨l, h⟩) else b (ix2 ⟨i % 8, by omega⟩ ⟨l - 128, by omega⟩)) := by
  pointwise []
  have hi := i.isLt
  congr 1
  by_cases h : i.val < 8
  · have e : i.val % 8 = i.val := Nat.mod_eq_of_lt h
    simp only [h, dif_pos, e]
  · have e : i.val % 8 = i.val - 8 := by omega
    simp only [h, dif_neg, not_false_eq_true, e]

theorem piece13_apply (b : Fin 32) (i : Fin 16) (l : Fin 256) :
    (piece13 (F := Ideal) c arg3 arg10 harg10 arg11 arg12 v0 k f3 b).2 (ix2 i l) = wdB (kst v0) B (16 * b + i) (256 * k + l) := by
  have hb := b.isLt
  have hi := i.isLt
  have hl := l.isLt
  have key : (if h : l.val < 128 then rowS (F := Ideal) c arg3 arg10 harg10 arg12 v0 k f3 ⟨2 * b.val, by omega⟩ (ix2 (⟨i % 8, by omega⟩ : Fin 8) ⟨l, h⟩) else rowS (F := Ideal) c arg3 arg10 harg10 arg12 v0 k f3 ⟨2 * b.val + 1, by omega⟩ (ix2 (⟨i % 8, by omega⟩ : Fin 8) ⟨l - 128, by omega⟩))
      = sB (kst v0) B ((16 * b.val + i.val) / 16) ((256 * k.val + l.val) / 16) := by
    split
    · rw [rowS_apply hB]
      unfold sRow
      congr 1 <;> dsimp only <;> omega
    · rw [rowS_apply hB]
      unfold sRow
      congr 1 <;> dsimp only <;> omega
  refine (band13_apply _ _ _ (b.val % 16) _ (by omega) i l).trans ?_
  rw [key, values_apply _ _ _ (by rw [codes_quots hB]; exact code_lt _), codes_quots hB]
  unfold wdB
  congr 3
  dsimp only; omega

/-- The decoded weights: a trip adds its 256 columns. -/
theorem wd_step (arg13 : Memref sig .tc .vmem S512x6144 .bf16) (f13 : Bf (F := Ideal) c arg13)
    (h13 : ∀ y : S512x6144.Idx, (y 1).val < 256 * k.val → arg13.view.read (Elt Ideal) f13 y = wdB (kst v0) B (y 0).val (y 1).val)
    (y : S512x6144.Idx) (hy : (y 1).val < 256 * (k.val + 1)) :
    arg13.view.read (Elt Ideal) (arg13.view.writes (Elt Ideal) f13 (trip.sl.H13_32 (F := Ideal) c arg3 arg10 harg10 arg11 arg12 v0 k f3)) y = wdB (kst v0) B (y 0).val (y 1).val := by
  have h0 : (y 0).val < 512 := (y 0).isLt
  rw [H13_eq]
  by_cases hlt : (y 1).val < 256 * k.val
  · rw [View.read_writes_apply_of_forall_not_mem]
    · exact h13 y hlt
    · intro p hp
      obtain ⟨n, rfl⟩ := List.mem_ofFn.mp hp
      refine not_mem_rect2 _ _ (offW_inb n.rev k) y 1 ?_
      show (y 1).val < k0_off1 k 1
      rw [col_eq]; exact hlt
  · refine View.read_writes_apply_of_pieces (Val := Elt Ideal) arg13.view f13 (fun y : S512x6144.Idx => (wdB (kst v0) B (y 0).val (y 1).val : EReal)) _ ?_ y ?_
    · intro p hp x
      obtain ⟨n, rfl⟩ := List.mem_ofFn.mp hp
      have hx0 : (x 0).val < 16 := (x 0).isLt
      have hx1 : (x 1).val < 256 := (x 1).isLt
      refine (congrArg _ (idx2_eq (a := 16) (b := 256) x ⟨(x 0).val, hx0⟩ ⟨(x 1).val, hx1⟩ rfl rfl)).trans ((piece13_apply hB arg10 harg10 arg11 arg12 k n.rev _ _).trans ?_)
      show _ = wdB (kst v0) B (16 * n.rev.val + 1 * (x 0).val) (k0_off1 k 1 + 1 * (x 1).val)
      rw [col_eq, Nat.one_mul, Nat.one_mul]
    · refine ⟨piece13 (F := Ideal) c arg3 arg10 harg10 arg11 arg12 v0 k f3 ⟨(y 0).val / 16, by omega⟩, List.mem_ofFn.mpr ⟨(⟨(y 0).val / 16, by omega⟩ : Fin 32).rev, by rw [Fin.rev_rev]⟩, ?_⟩
      refine mem_rect2 (a := 512) (b := 6144) _ _ (offW_inb ⟨(y 0).val / 16, by omega⟩ k) y ?_ ?_
      · show 16 * ((y 0).val / 16) ≤ (y 0).val ∧ (y 0).val < 16 * ((y 0).val / 16) + 16; omega
      · show k0_off1 k 1 ≤ (y 1).val ∧ (y 1).val < k0_off1 k 1 + 256
        rw [col_eq]; omega

end

end Cert.Proof.KernelIdeal

end
-- ==== Proof.S.KCarry.lean ====
module

public import proofs.«01_k».proof.Proof.S.KStruct
public import proofs.«01_k».proof.Proof.S.Spec
public import proofs.«01_k».proof.Proof.S.KVals
public import proofs.«01_k».proof.Proof.S.KVals2
public import proofs.«01_k».proof.Proof.S.Pays
public import proofs.«01_k».proof.Proof.S.Pays2
public import Idealize.ShloMosaic.Lib.Pipeline.FrameBody
public import Idealize.ShloMosaic.Lib.Pipeline.Value
public import Idealize.ShloMosaic.Lib.Pointwise
public import Idealize.ShloMosaic.Lib.BitcastFour
public import Idealize.ShloMosaic.Lib.Tactic

@[expose] public section

set_option maxRecDepth 16384

noncomputable section

namespace Cert.Proof.KernelIdeal

open Cert.KernelIdeal Cert.KernelIdeal.Gen Cert.Proof.Spec
open Idealize.ShloMosaic Idealize.ShloMosaic.TcCoe Idealize.ShloMosaic.Tactic

/-- The lane taken for the carried scales, as a 32-bit number. -/
def pl (it t h : BitVec 32) (l : ℕ) : BitVec 32 :=
  IntOp.muli 16#32 (IntOp.subi (IntOp.subi (BitVec.ofNat 32 l) (Scalar.subi (Scalar.muli 16#32 it) t)) h)

/-- Whether that lane is one. -/
def plOk (it t h : BitVec 32) (l : ℕ) : BitVec 1 := IntOp.andi (IntOp.cmpi .sge (pl it t h l) 0#32) (IntOp.cmpi .slt (pl it t h l) 128#32)

/-- The lane read. -/
def plSrc (it t h : BitVec 32) (l : ℕ) : ℕ :=
  (Scalar.select (IntOp.cmpi .slt (Scalar.select (plOk it t h l) (pl it t h l) 0#32) 0#32) (IntOp.addi (Scalar.select (plOk it t h l) (pl it t h l) 0#32) 128#32)
    (Scalar.select (plOk it t h l) (pl it t h l) 0#32)).toNat

set_option backward.isDefEq.respectTransparency false in
theorem pick_apply (it t h : BitVec 32) (row old : FVec Ideal S32x128 .f32) (b : Fin 32) (l : Fin 128) :
    pick (F := Ideal) laneV it t h row old (ix2 b l)
      = Scalar.select (plOk it t h l) (row (ix2 b ⟨plSrc it t h l % 128, Nat.mod_lt _ (by decide)⟩)) (old (ix2 b l)) := by
  pointwise [pick, srcOk, srcIdx, srcLane]
  rfl

set_option backward.isDefEq.respectTransparency false in
theorem half0_apply (s : FVec Ideal S64x128 .f32) (b : Fin 32) (l : Fin 128) : half0 (F := Ideal) s (ix2 b l) = s (ix2 ⟨2 * b, by omega⟩ l) := by
  pointwise [half0]
  congr 2
  exact Fin.ext (Nat.mul_comm _ _)

set_option backward.isDefEq.respectTransparency false in
theorem half1_apply (s : FVec Ideal S64x128 .f32) (b : Fin 32) (l : Fin 128) : half1 (F := Ideal) s (ix2 b l) = s (ix2 ⟨2 * b + 1, by omega⟩ l) := by
  pointwise [half1]
  congr 2
  exact Fin.ext (congrArg (· + 1) (Nat.mul_comm _ _))

/-- Third `t`'s lane `l` takes half `h` of trip `k` exactly when its column is among that half's eight, and then from the first lane of that column. -/
theorem pl_spec : ∀ (k : Fin 24) (t : Fin 3) (h : Fin 2) (l : Fin 128),
    (plOk (BitVec.ofNat 32 k) (BitVec.ofNat 32 (128 * t)) (BitVec.ofNat 32 (8 * h)) l = 1#1 ↔ 16 * k.val + 8 * h.val ≤ 128 * t.val + l.val ∧ 128 * t.val + l.val < 16 * k.val + 8 * h.val + 8)
      ∧ (16 * k.val + 8 * h.val ≤ 128 * t.val + l.val ∧ 128 * t.val + l.val < 16 * k.val + 8 * h.val + 8 →
        plSrc (BitVec.ofNat 32 k) (BitVec.ofNat 32 (128 * t)) (BitVec.ofNat 32 (8 * h)) l % 128 = 16 * (128 * t.val + l.val - (16 * k.val + 8 * h.val))) := by
  decide +kernel

variable {B : ℕ → ℕ → EReal}

theorem pick_val (st : EReal) (k : Fin 24) (t : Fin 3) (h : Fin 2) (row old : FVec Ideal S32x128 .f32) (b : Fin 32) (l : Fin 128)
    (hrow : ∀ (b : Fin 32) (l : Fin 128), row (ix2 b l) = sB st B b (16 * k + 8 * h + l / 16)) :
    pick (F := Ideal) laneV (BitVec.ofNat 32 k) (BitVec.ofNat 32 (128 * t)) (BitVec.ofNat 32 (8 * h)) row old (ix2 b l)
      = if 16 * k.val + 8 * h.val ≤ 128 * t.val + l.val ∧ 128 * t.val + l.val < 16 * k.val + 8 * h.val + 8 then sB st B b (128 * t + l) else old (ix2 b l) := by
  obtain ⟨h1, h2⟩ := pl_spec k t h l
  rw [pick_apply]
  split
  · rename_i hc
    rw [h1.mpr hc]
    refine (hrow b _).trans ?_
    have e : plSrc (BitVec.ofNat 32 k) (BitVec.ofNat 32 (128 * t)) (BitVec.ofNat 32 (8 * h)) l % 128 = _ := h2 hc
    refine congrArg (sB st B b) ?_
    dsimp only
    omega
  · rename_i hc
    have hne : plOk (BitVec.ofNat 32 k) (BitVec.ofNat 32 (128 * t)) (BitVec.ofNat 32 (8 * h)) l ≠ 1#1 := fun e => hc (h1.mp e)
    exact if_neg hne

/-- The carried scales before trip `k`: the columns of the trips done are in place. -/
def AccIs (st : EReal) (B : ℕ → ℕ → EReal) (k : ℕ) (acc : FVec Ideal S32x128 .f32 × FVec Ideal S32x128 .f32 × FVec Ideal S32x128 .f32) : Prop :=
  ∀ (b : Fin 32) (l : Fin 128), (l.val < 16 * k → acc.1 (ix2 b l) = sB st B b l) ∧ (128 + l.val < 16 * k → acc.2.1 (ix2 b l) = sB st B b (128 + l))
    ∧ (256 + l.val < 16 * k → acc.2.2 (ix2 b l) = sB st B b (256 + l))

theorem pick2_val (st : EReal) (k : Fin 24) (t : Fin 3) (sb : FVec Ideal S64x128 .f32) (old : FVec Ideal S32x128 .f32)
    (hsb : ∀ (n : Fin 64) (l : Fin 128), sb (ix2 n l) = sRow st B k n l) (b : Fin 32) (l : Fin 128)
    (hold : 128 * t.val + l.val < 16 * k.val → old (ix2 b l) = sB st B b (128 * t + l)) (hl : 128 * t.val + l.val < 16 * (k.val + 1)) :
    pick2 (F := Ideal) laneV (BitVec.ofNat 32 k) (BitVec.ofNat 32 (128 * t)) sb old (ix2 b l) = sB st B b (128 * t + l) := by
  have r0 : ∀ (b : Fin 32) (l : Fin 128), half0 (F := Ideal) sb (ix2 b l) = sB st B b (16 * k + 8 * (0 : Fin 2) + l / 16) := fun b l => by
    rw [half0_apply, hsb]
    unfold sRow
    congr 1 <;> dsimp only <;> omega
  have r1 : ∀ (b : Fin 32) (l : Fin 128), half1 (F := Ideal) sb (ix2 b l) = sB st B b (16 * k + 8 * (1 : Fin 2) + l / 16) := fun b l => by
    rw [half1_apply, hsb]
    unfold sRow
    congr 1 <;> dsimp only <;> omega
  have e1 := pick_val st k t 1 (half1 (F := Ideal) sb) (pick (F := Ideal) laneV (BitVec.ofNat 32 k) (BitVec.ofNat 32 (128 * t)) 0#32 (half0 sb) old) b l r1
  have e0 := pick_val st k t 0 (half0 (F := Ideal) sb) old b l r0
  refine (show pick2 (F := Ideal) laneV (BitVec.ofNat 32 k) (BitVec.ofNat 32 (128 * t)) sb old (ix2 b l) = _ from e1).trans ?_
  split
  · rfl
  · refine Eq.trans e0 ?_
    split
    · rfl
    · rename_i hc1 hc0
      apply hold
      have : ((1 : Fin 2) : ℕ) = 1 := rfl
      have : ((0 : Fin 2) : ℕ) = 0 := rfl
      omega

theorem iv_eq (k : ℕ) : Scf.iv 0#32 1#32 k = BitVec.ofNat 32 k := by
  unfold Scf.iv
  rw [BitVec.zero_add, BitVec.mul_one]

theorem acc_step (st : EReal) (k : Fin 24) (sb : FVec Ideal S64x128 .f32) (hsb : ∀ (n : Fin 64) (l : Fin 128), sb (ix2 n l) = sRow st B k n l)
    (acc : FVec Ideal S32x128 .f32 × FVec Ideal S32x128 .f32 × FVec Ideal S32x128 .f32) (h : AccIs st B k acc) :
    AccIs st B (k + 1) (pick2 laneV (Scf.iv 0#32 1#32 k.val) 0#32 sb acc.1, pick2 laneV (Scf.iv 0#32 1#32 k.val) 128#32 sb acc.2.1, pick2 laneV (Scf.iv 0#32 1#32 k.val) 256#32 sb acc.2.2) := by
  intro b l
  rw [iv_eq]
  obtain ⟨h0, h1, h2⟩ := h b l
  have z : ∀ (n : ℕ), 128 * ((0 : Fin 3) : ℕ) + n = n := fun n => Nat.zero_add n
  refine ⟨fun hl => ?_, fun hl => ?_, fun hl => ?_⟩
  · have e := pick2_val st k 0 sb acc.1 hsb b l (by rw [z]; exact h0) (by rw [z]; exact hl)
    rw [z] at e
    exact e
  · exact pick2_val st k 1 sb acc.2.1 hsb b l h1 hl
  · exact pick2_val st k 2 sb acc.2.2 hsb b l h2 hl

section

variable {c : Dev nD} {arg3 : Memref sig .tc .vmem S512x6144 .bf16} {f3 : Bf (F := Ideal) c arg3}

/-- The running maxima of a block's first `k` trips, from `a`. -/
def amB (B : ℕ → ℕ → EReal) (a : ℕ → ℕ → EReal) (k i l : ℕ) : EReal :=
  max (a i l) ((Finset.range k ×ˢ Finset.range 8).sup fun p => bam B ((8 * p.2 + i) / 2) (16 * p.1 + 8 * (i % 2) + l / 16))

theorem amNext_apply (hB : Holds c arg3 f3 B) (arg10 : Memref sig .tc .vmem S512x128 .bf16) (harg10 : arg10.IsWhole) (k : Fin k0_t1_loop.trips) (a : ℕ → ℕ → EReal)
    (am : FVec Ideal S8x128 .f32) (ham : ∀ (i : Fin 8) (l : Fin 128), am (ix2 i l) = amB B a k i l) (i : Fin 8) (l : Fin 128) :
    amNext (F := Ideal) c arg3 arg10 harg10 k f3 am (ix2 i l) = amB B a (k + 1) i l := by
  have gen : ∀ (L : List (Fin 8)) (x : FVec Ideal S8x128 .f32) (z : EReal),
      List.foldl (fun a g => maximumf a (blkMax c arg3 arg10 harg10 k f3 g)) x L (ix2 i l) ≤ z
        ↔ x (ix2 i l) ≤ z ∧ ∀ g ∈ L, bam B ((8 * g.val + i) / 2) (16 * k + 8 * (i % 2) + l / 16) ≤ z := by
    intro L
    induction L with
    | nil => intro x z; simp
    | cons g L ih =>
      intro x z
      rw [List.foldl_cons, ih]
      have e : (maximumf x (blkMax (F := Ideal) c arg3 arg10 harg10 k f3 g)) (ix2 i l) = max (x (ix2 i l)) (bam B ((8 * g.val + i) / 2) (16 * k + 8 * (i % 2) + l / 16)) := by
        rw [← blkMax_apply hB arg10 harg10 k g i l]
        rfl
      rw [e, max_le_iff]
      simp only [List.mem_cons, forall_eq_or_imp]
      tauto
  refine eq_of_forall_ge_iff fun z => ?_
  unfold amNext
  rw [gen, ham]
  unfold amB
  simp only [max_le_iff, Finset.sup_le_iff, Finset.mem_product, Finset.mem_range, List.mem_finRange, forall_const]
  constructor
  · rintro ⟨⟨h0, h1⟩, h2⟩
    refine ⟨h0, fun p hp => ?_⟩
    by_cases hk : p.1 < k.val
    · exact h1 p ⟨hk, hp.2⟩
    · have : p.1 = k.val := by omega
      rw [this]
      exact h2 ⟨p.2, hp.2⟩
  · rintro ⟨h0, h1⟩
    exact ⟨⟨h0, fun p hp => h1 p ⟨by omega, hp.2⟩⟩, fun g => h1 (k.val, g.val) ⟨by show k.val < k.val + 1; omega, g.isLt⟩⟩

end

end Cert.Proof.KernelIdeal

end
-- ==== Proof.S.KRun.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.KernelIdeal.Points
public import proofs.«01_k».proof.Proof.S.KLoop
public import proofs.«01_k».proof.Proof.S.KCarry
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.KernelIdealValue

open Cert.KernelIdeal Cert.KernelIdeal.Gen Cert.Proof.KernelIdeal Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem trips_eq : k0_t1_loop.trips = 24 := by decide +kernel

section whole

variable {κ : Kind} {sp : Space} {s : Shape} {e : EltTy}

/-- A read of the whole through the rectangle at the origin. -/
theorem readAt_all (v : View sig κ sp s e) (f : v.ty.Contents (Elt Ideal)) (off : Fin s.rank → ℕ) (inb : ∀ a, off a + s.size a ≤ s.size a) :
    v.readAt (Elt Ideal) (Rect.unit (s := s) off s.size inb).toLoadRect f = v.read (Elt Ideal) f := by
  funext y
  rw [View.readAt_apply]
  refine congrArg (v.read (Elt Ideal) f) (funext fun a => Fin.ext ?_)
  show off a + 1 * (y a).val = (y a).val
  have := inb a
  omega

/-- A write of the whole through the rectangle at the origin. -/
theorem read_writes_all (v : View sig κ sp s e) (f : v.ty.Contents (Elt Ideal)) (off : Fin s.rank → ℕ) (inb : ∀ a, off a + s.size a ≤ s.size a) (x : s.Idx → Elt Ideal e) :
    v.read (Elt Ideal) (v.writes (Elt Ideal) f [⟨Rect.unit (s := s) off s.size inb, x⟩]) = x := by
  funext y
  refine View.read_writes_apply_of_pieces (Val := Elt Ideal) v f x _ ?_ y ?_
  · intro p hp z
    obtain rfl := List.mem_singleton.mp hp
    refine congrArg x (funext fun a => Fin.ext ?_)
    show (z a).val = off a + 1 * (z a).val
    have := inb a
    omega
  · refine ⟨_, List.mem_singleton_self _, (show y ∈ (Rect.unit (s := s) off s.size inb).set from Rect.mem_set_unit.mpr fun a => ?_)⟩
    have := inb a
    have := (y a).isLt
    omega

end whole

set_option backward.isDefEq.respectTransparency false in
theorem pay106_apply (x : Vec Ideal S8x128 .f32) (i : Fin 8) (l : Fin 128) : k0_pay106 (F := Ideal) x (ix2 i l) = x (ix2 i l) := by
  pointwise [k0_pay106]

/-- A weight block as numbers indexed by naturals. -/
def nat2 (x : Vec Ideal S512x6144 .bf16) (r q : ℕ) : EReal := if h : r < 512 ∧ q < 6144 then x (ix2 ⟨r, h.1⟩ ⟨q, h.2⟩) else 0

theorem holds_nat2 {c : Dev nD} {arg3 : Memref sig .tc .vmem S512x6144 .bf16} {f3 : Bf (F := Ideal) c arg3} {x3 : Vec Ideal S512x6144 .bf16} (h : arg3.view.read (Elt Ideal) f3 = x3) :
    Holds c arg3 f3 (nat2 x3) := fun r q => by
  unfold nat2
  rw [h, dif_pos ⟨r.isLt, q.isLt⟩]

section

variable {c : Dev nD} {arg3 : Memref sig .tc .vmem S512x6144 .bf16} {f3 : Bf (F := Ideal) c arg3} {B : ℕ → ℕ → EReal} {v0 : Vec Ideal S1x24 .f32}
variable (hB : Holds c arg3 f3 B) (arg10 : Memref sig .tc .vmem S512x128 .bf16) (harg10 : arg10.IsWhole) (arg11 : Memref sig .tc .vmem S64x128 .f32) (arg12 : Memref sig .tc .vmem S64x128 .f32)

include hB

theorem b5_read (arg5 : Memref sig .tc .vmem S512x3072 .i8) (g : Bf (F := Ideal) c arg5) (k : ℕ) (hk : k ≤ 24) (y : S512x3072.Idx) (hy : (y 1).val < 128 * k) :
    arg5.view.read (Elt Ideal) (b5 c arg3 arg5 arg10 harg10 arg11 v0 f3 g k) y = ckB (kst v0) B (y 0).val (y 1).val := by
  induction k generalizing y with
  | zero => omega
  | succ k ih =>
    have h : k < k0_t1_loop.trips := by rw [trips_eq]; omega
    rw [b5, dif_pos h]
    exact ck_step hB arg10 harg10 arg11 ⟨k, h⟩ arg5 _ (fun y hy => ih (by omega) y hy) y hy

theorem b6_read (arg6 : Memref sig .tc .vmem S6144x256 .i8) (g : Bf (F := Ideal) c arg6) (k : ℕ) (hk : k ≤ 24) (y : S6144x256.Idx) (hy : (y 0).val < 256 * k) :
    arg6.view.read (Elt Ideal) (b6 c arg3 arg6 arg10 harg10 arg11 v0 f3 g k) y = cnB (kst v0) B (y 0).val (y 1).val := by
  induction k generalizing y with
  | zero => omega
  | succ k ih =>
    have h : k < k0_t1_loop.trips := by rw [trips_eq]; omega
    rw [b6, dif_pos h]
    exact cn_step hB arg10 harg10 arg11 ⟨k, h⟩ arg6 _ (fun y hy => ih (by omega) y hy) y hy

theorem b13_read (arg13 : Memref sig .tc .vmem S512x6144 .bf16) (g : Bf (F := Ideal) c arg13) (k : ℕ) (hk : k ≤ 24) (y : S512x6144.Idx) (hy : (y 1).val < 256 * k) :
    arg13.view.read (Elt Ideal) (b13 c arg3 arg10 harg10 arg11 arg12 arg13 v0 f3 g k) y = wdB (kst v0) B (y 0).val (y 1).val := by
  induction k generalizing y with
  | zero => omega
  | succ k ih =>
    have h : k < k0_t1_loop.trips := by rw [trips_eq]; omega
    rw [b13, dif_pos h]
    exact wd_step hB arg10 harg10 arg11 arg12 ⟨k, h⟩ arg13 _ (fun y hy => ih (by omega) y hy) y hy

theorem b9_read (arg9 : Memref sig .tc .vmem S8x128 .f32) (g : Bf (F := Ideal) c arg9) (a : ℕ → ℕ → EReal) (ha : ∀ (i : Fin 8) (l : Fin 128), arg9.view.read (Elt Ideal) g (ix2 i l) = a i l) (k : ℕ) (hk : k ≤ 24) (i : Fin 8) (l : Fin 128) :
    arg9.view.read (Elt Ideal) (b9 c arg3 arg9 arg10 harg10 f3 g k) (ix2 i l) = amB B a k i l := by
  induction k generalizing i l with
  | zero =>
    rw [b9, ha]
    unfold amB
    simp
  | succ k ih =>
    have h : k < k0_t1_loop.trips := by rw [trips_eq]; omega
    rw [b9, dif_pos h, H9_eq, read_writes_all]
    refine amNext_apply hB arg10 harg10 ⟨k, h⟩ a _ (fun i l => ?_) i l
    rw [pay106_apply, readAt_all]
    exact ih (by omega) i l

theorem accs_is (k : ℕ) (hk : k ≤ 24) (init : FVec Ideal S32x128 .f32 × FVec Ideal S32x128 .f32 × FVec Ideal S32x128 .f32) :
    AccIs (kst v0) B k (accs (F := Ideal) c arg3 arg10 harg10 arg12 v0 laneV f3 init k) := by
  induction k with
  | zero => intro b l; exact ⟨fun h => by omega, fun h => by omega, fun h => by omega⟩
  | succ k ih =>
    have h : k < k0_t1_loop.trips := by rw [trips_eq]; omega
    rw [accs, dif_pos h, carry_eq]
    exact acc_step (kst v0) ⟨k, by omega⟩ _ (fun n l => allS_apply hB arg10 harg10 arg12 ⟨k, h⟩ n l) _ (ih (by omega))

end

/-- What a point leaves in each output's block, from the blocks it reads. -/
def ckV (x1 : Vec Ideal S1x24 .f32) (x3 : Vec Ideal S512x6144 .bf16) : Vec Ideal S512x3072 .i8 := fun y => ckB (kst x1) (nat2 x3) (y 0).val (y 1).val
@[inherit_doc ckV] def cnV (x1 : Vec Ideal S1x24 .f32) (x3 : Vec Ideal S512x6144 .bf16) : Vec Ideal S6144x256 .i8 := fun y => cnB (kst x1) (nat2 x3) (y 0).val (y 1).val
@[inherit_doc ckV] def sbV (x1 : Vec Ideal S1x24 .f32) (x3 : Vec Ideal S512x6144 .bf16) : Vec Ideal S32x384 .fp8e4m3 := fun y => sB (kst x1) (nat2 x3) (y 0).val (y 1).val
@[inherit_doc ckV] def wdV (x1 : Vec Ideal S1x24 .f32) (x3 : Vec Ideal S512x6144 .bf16) : Vec Ideal S512x6144 .bf16 := fun y => wdB (kst x1) (nat2 x3) (y 0).val (y 1).val
@[inherit_doc ckV] def yV (x1 : Vec Ideal S1x24 .f32) (x2 : Vec Ideal S256x6144 .bf16) (x3 : Vec Ideal S512x6144 .bf16) : Vec Ideal S256x512 .bf16 := k0_pay387 (F := Ideal) x1 (wdV x1 x3) x2
@[inherit_doc ckV] def amV (a : ℕ → ℕ → EReal) (x3 : Vec Ideal S512x6144 .bf16) : Vec Ideal S8x128 .f32 := fun y => amB (nat2 x3) a 24 (y 0).val (y 1).val

/-- The running maxima a point starts from: zero at the first, what the point before left at the others. -/
def amIn (i : ℕ) (x9 : Vec Ideal S8x128 .f32) (r l : ℕ) : EReal := if i = 0 then 0 else if h : r < 8 ∧ l < 128 then x9 (ix2 ⟨r, h.1⟩ ⟨l, h.2⟩) else 0

end Cert.Proof.KernelIdealValue

end
-- ==== Proof.S.KBody.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.KernelIdeal.Points
public import proofs.«01_k».proof.Proof.S.KLoop
public import proofs.«01_k».proof.Proof.S.KCarry
public import proofs.«01_k».proof.Proof.S.KRun
public import Idealize.ShloMosaic.Lib.Tactic
public import Idealize.ShloMosaic.Lib.Pipeline.Kit
public import Idealize.ShloMosaic.Lib.Pipeline.FrameBody

@[expose] public section

set_option maxRecDepth 16384

noncomputable section

namespace Cert.Proof.KernelIdealValue

open Cert.KernelIdeal Cert.KernelIdeal.Gen Cert.Proof.KernelIdeal Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency false in
theorem pay384_apply (x : FVec Ideal S32x128 .f32) (b : Fin 32) (l : Fin 128) : k0_pay384 (F := Ideal) x (ix2 b l) = x (ix2 b l) := by
  pointwise [k0_pay384]

set_option backward.isDefEq.respectTransparency false in
theorem pay385_apply (x : FVec Ideal S32x128 .f32) (b : Fin 32) (l : Fin 128) : k0_pay385 (F := Ideal) x (ix2 b l) = x (ix2 b l) := by
  pointwise [k0_pay385]

set_option backward.isDefEq.respectTransparency false in
theorem pay386_apply (x : FVec Ideal S32x128 .f32) (b : Fin 32) (l : Fin 128) : k0_pay386 (F := Ideal) x (ix2 b l) = x (ix2 b l) := by
  pointwise [k0_pay386]

set_option backward.isDefEq.respectTransparency false in
theorem pay381_apply (i : Fin 8) (l : Fin 128) : k0_pay381 (F := Ideal) (ix2 i l) = 0 := by
  pointwise [k0_pay381]

/-- The first point's condition, in the words the body computes it by. -/
theorem first_iff : ∀ n : Fin 32, Scalar.cmpi .ne (Scalar.extui (Scalar.cmpi .eq (BitVec.ofNat 32 n.val) 0#32)) 0#32 = 1#1 ↔ n.val = 0 := by
  decide +kernel

/-- The three thirds of the scales' block. -/
theorem sb_read (arg7 : Memref sig .tc .vmem S32x384 .fp8e4m3) {c : Dev nD} (f7 : Bf (F := Ideal) c arg7) (st : EReal) (B : ℕ → ℕ → EReal) (acc : FVec Ideal S32x128 .f32 × FVec Ideal S32x128 .f32 × FVec Ideal S32x128 .f32)
    (h : AccIs st B 24 acc) : arg7.view.read (Elt Ideal) (arg7.view.writes (Elt Ideal) f7
      [⟨Rect.unit (s := S32x384) ![0, 256] S32x128.size inb_S32x384_S32x128_0_256, k0_pay386 acc.2.2⟩, ⟨Rect.unit (s := S32x384) ![0, 128] S32x128.size inb_S32x384_S32x128_0_128, k0_pay385 acc.2.1⟩,
        ⟨Rect.unit (s := S32x384) ![0, 0] S32x128.size inb_S32x384_S32x128_0_0, k0_pay384 acc.1⟩]) = fun y => (sB st B (y 0).val (y 1).val : EReal) := by
  funext y
  have h0 : (y 0).val < 32 := (y 0).isLt
  have h1 : (y 1).val < 384 := (y 1).isLt
  refine View.read_writes_apply_of_pieces (Val := Elt Ideal) arg7.view f7 (fun y : S32x384.Idx => (sB st B (y 0).val (y 1).val : EReal)) _ ?_ y ?_
  · intro p hp x
    simp only [List.mem_cons, List.not_mem_nil, or_false] at hp
    have hx0 : (x 0).val < 32 := by rcases hp with rfl | rfl | rfl <;> exact (x 0).isLt
    have hx1 : (x 1).val < 128 := by rcases hp with rfl | rfl | rfl <;> exact (x 1).isLt
    rcases hp with rfl | rfl | rfl
    · refine (congrArg _ (idx2_eq (a := 32) (b := 128) x ⟨(x 0).val, hx0⟩ ⟨(x 1).val, hx1⟩ rfl rfl)).trans ((pay386_apply _ _ _).trans (((h ⟨(x 0).val, hx0⟩ ⟨(x 1).val, hx1⟩).2.2 (by show 256 + (x 1).val < 16 * 24; omega)).trans ?_))
      show _ = sB st B (0 + 1 * (x 0).val) (256 + 1 * (x 1).val)
      rw [Nat.zero_add, Nat.one_mul, Nat.one_mul]
    · refine (congrArg _ (idx2_eq (a := 32) (b := 128) x ⟨(x 0).val, hx0⟩ ⟨(x 1).val, hx1⟩ rfl rfl)).trans ((pay385_apply _ _ _).trans (((h ⟨(x 0).val, hx0⟩ ⟨(x 1).val, hx1⟩).2.1 (by show 128 + (x 1).val < 16 * 24; omega)).trans ?_))
      show _ = sB st B (0 + 1 * (x 0).val) (128 + 1 * (x 1).val)
      rw [Nat.zero_add, Nat.one_mul, Nat.one_mul]
    · refine (congrArg _ (idx2_eq (a := 32) (b := 128) x ⟨(x 0).val, hx0⟩ ⟨(x 1).val, hx1⟩ rfl rfl)).trans ((pay384_apply _ _ _).trans (((h ⟨(x 0).val, hx0⟩ ⟨(x 1).val, hx1⟩).1 (by show (x 1).val < 16 * 24; omega)).trans ?_))
      show _ = sB st B (0 + 1 * (x 0).val) (0 + 1 * (x 1).val)
      rw [Nat.zero_add, Nat.zero_add, Nat.one_mul, Nat.one_mul]
  · by_cases ha : (y 1).val < 128
    · refine ⟨_, List.mem_cons_of_mem _ (List.mem_cons_of_mem _ List.mem_cons_self), mem_rect2 (a := 32) (b := 384) _ _ inb_S32x384_S32x128_0_0 y ?_ ?_⟩
      · show 0 ≤ _ ∧ _ < 0 + 32; omega
      · show 0 ≤ _ ∧ _ < 0 + 128; omega
    · by_cases hb : (y 1).val < 256
      · refine ⟨_, List.mem_cons_of_mem _ List.mem_cons_self, mem_rect2 (a := 32) (b := 384) _ _ inb_S32x384_S32x128_0_128 y ?_ ?_⟩
        · show 0 ≤ _ ∧ _ < 0 + 32; omega
        · show 128 ≤ _ ∧ _ < 128 + 128; omega
      · refine ⟨_, List.mem_cons_self, mem_rect2 (a := 32) (b := 384) _ _ inb_S32x384_S32x128_0_256 y ?_ ?_⟩
        · show 0 ≤ _ ∧ _ < 0 + 32; omega
        · show 256 ≤ _ ∧ _ < 256 + 128; omega

/-- The kernel's body at any grid point, with the contents it leaves. -/
theorem bodyVal (c : Dev nD) (i : grid0.Coords) (arg1 : Memref sig .tc .vmem S1x24 .f32) (harg1 : arg1.IsWhole) (arg2 : Memref sig .tc .vmem S256x6144 .bf16) (harg2 : arg2.IsWhole) (arg3 : Memref sig .tc .vmem S512x6144 .bf16) (harg3 : arg3.IsWhole) (arg4 : Memref sig .tc .vmem S256x512 .bf16) (harg4 : arg4.IsWhole) (arg5 : Memref sig .tc .vmem S512x3072 .i8) (harg5 : arg5.IsWhole) (arg6 : Memref sig .tc .vmem S6144x256 .i8) (harg6 : arg6.IsWhole) (arg7 : Memref sig .tc .vmem S32x384 .fp8e4m3) (harg7 : arg7.IsWhole) (arg8 : Memref sig .tc .vmem S1x1 .f32) (harg8 : arg8.IsWhole) (arg9 : Memref sig .tc .vmem S8x128 .f32) (harg9 : arg9.IsWhole) (arg10 : Memref sig .tc .vmem S512x128 .bf16) (harg10 : arg10.IsWhole) (arg11 : Memref sig .tc .vmem S64x128 .f32) (harg11 : arg11.IsWhole) (arg12 : Memref sig .tc .vmem S64x128 .f32) (harg12 : arg12.IsWhole) (arg13 : Memref sig .tc .vmem S512x6144 .bf16) (harg13 : arg13.IsWhole)
    (x1 : Vec Ideal S1x24 .f32) (x2 : Vec Ideal S256x6144 .bf16) (x3 : Vec Ideal S512x6144 .bf16) (x9 : Vec Ideal S8x128 .f32) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg1 fullShare x1 ∗ owns (c : Thread nD τ) arg2 fullShare x2 ∗ owns (c : Thread nD τ) arg3 fullShare x3 ∗ owns (c : Thread nD τ) arg4 fullShare (yV x1 x2 x3) ∗ owns (c : Thread nD τ) arg5 fullShare (ckV x1 x3) ∗ owns (c : Thread nD τ) arg6 fullShare (cnV x1 x3) ∗ owns (c : Thread nD τ) arg7 fullShare (sbV x1 x3) ∗ owns (c : Thread nD τ) arg8 fullShare (k0_pay380 (F := Ideal) x1) ∗ owns (c : Thread nD τ) arg9 fullShare (amV (amIn (i 0).val x9) x3) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
    ⊢ wp frame (wpE (defs₀ (F := Ideal)) Variants.none c none) Set.univ (cc0_nvfp4_quant_matmul i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%f9, %hf9, H9⟩, ⟨%d10, %f10, -, H10⟩, ⟨%d11, %f11, -, H11⟩, ⟨%d12, %f12, -, H12⟩, ⟨%d13, %f13, -, H13⟩, Hk⟩
  have hB := holds_nat2 hf3
  unfold cc0_nvfp4_quant_matmul
  sl_exec_parts
  sl_step
  have e1 : View.readAt (Elt Ideal) arg1.view (Rect.unit (s := S1x24) ![0, 0] S1x24.size inb_S1x24_S1x24_0_0).toLoadRect f1 = x1 := (readAt_all _ _ _ _).trans hf1
  have e2 : View.readAt (Elt Ideal) arg2.view (Rect.unit (s := S256x6144) ![0, 0] S256x6144.size inb_S256x6144_S256x6144_0_0).toLoadRect f2 = x2 := (readAt_all _ _ _ _).trans hf2
  iapply Hk
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro
    refine (read_writes_all _ _ _ _ _).trans ?_
    unfold bodyVal.sl.r bodyVal.sl.v20
    rw [e1, e2, readAt_all]
    unfold yV
    refine congrArg (fun z => k0_pay387 (F := Ideal) x1 z x2) (funext fun y => ?_)
    exact b13_read hB arg10 harg10 arg11 arg12 arg13 f13 24 le_rfl y (y 1).isLt
  isplitl [H5]
  · iexists _; isplitr
    swap; · iexact H5
    ipureintro
    rw [e1]
    funext y
    exact b5_read hB arg10 harg10 arg11 arg5 f5 24 le_rfl y (y 1).isLt
  isplitl [H6]
  · iexists _; isplitr
    swap; · iexact H6
    ipureintro
    rw [e1]
    funext y
    exact b6_read hB arg10 harg10 arg11 arg6 f6 24 le_rfl y (y 0).isLt
  isplitl [H7]
  · iexists _; isplitr
    swap; · iexact H7
    ipureintro
    rw [e1]
    exact sb_read arg7 f7 (kst x1) (nat2 x3) _ (accs_is hB arg10 harg10 arg12 24 le_rfl _)
  isplitl [H8]
  · iexists _; isplitr
    swap; · iexact H8
    ipureintro
    refine (read_writes_all _ _ _ _ _).trans ?_
    rw [e1]
  isplitl [H9]
  · iexists _; isplitr
    swap; · iexact H9
    ipureintro
    funext y
    rw [idx2_eq (a := 8) (b := 128) y ⟨(y 0).val, (y 0).isLt⟩ ⟨(y 1).val, (y 1).isLt⟩ rfl rfl]
    refine (b9_read hB arg10 harg10 arg9 _ (amIn (i 0).val x9) (fun r l => ?_) 24 le_rfl _ _).trans rfl
    have hz : bodyVal.sl.v10 i = 1#1 ↔ (i 0).val = 0 := first_iff (i 0)
    unfold amIn
    cases instDecidableEqBitVec (bodyVal.sl.v10 i) 1#1 with
    | isFalse hn =>
      rw [if_neg (fun h => hn (hz.mpr h)), dif_pos ⟨r.isLt, l.isLt⟩]
      exact congrFun hf9 _
    | isTrue hc =>
      rw [if_pos (hz.mp hc)]
      exact (congrFun (read_writes_all _ _ _ _ _) _).trans (pay381_apply r l)
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  iexists _; iexists _; isplitr
  swap; · iexact H13
  ipureintro; rfl

end Cert.Proof.KernelIdealValue

end
-- ==== Proof.S.KFrameVal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.KernelIdeal.Points
public import proofs.«01_k».proof.Proof.S.KLoop
public import proofs.«01_k».proof.Proof.S.KCarry
public import proofs.«01_k».proof.Proof.S.KRun
public import proofs.«01_k».proof.Proof.S.KBody
public import Idealize.ShloMosaic.Lib.Tactic
public import Idealize.ShloMosaic.Lib.Pipeline.Kit
public import Idealize.ShloMosaic.Lib.Pipeline.FrameBody
public import Idealize.ShloMosaic.Lib.Pipeline.FrameSuffix

@[expose] public section

set_option maxRecDepth 16384

noncomputable section

namespace Cert.Proof.KernelIdealValue

open Cert.KernelIdeal Cert.KernelIdeal.Gen Cert.Proof.KernelIdeal Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The blocks the region's body reads at a point. -/
abbrev hB (c : Dev nD) (t : Fin cfg0.N) : Vec Ideal S1x24 .f32 := iblk m c 0 t
@[inherit_doc hB] abbrev xB (c : Dev nD) (t : Fin cfg0.N) : Vec Ideal S256x6144 .bf16 := iblk m c 1 t
@[inherit_doc hB] abbrev wB (c : Dev nD) (t : Fin cfg0.N) : Vec Ideal S512x6144 .bf16 := iblk m c 2 t

/-- The running maxima after each point. -/
def amAt (c : Dev nD) : (n : ℕ) → n < cfg0.N → Vec Ideal S8x128 .f32
  | 0, hn => amV (fun _ _ => 0) (wB m c ⟨0, hn⟩)
  | n + 1, hn => amV (amIn (n + 1) (amAt c n (Nat.lt_of_succ_lt hn))) (wB m c ⟨n + 1, hn⟩)

/-- The region's contents, point by point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yV (hB m c t) (xB m c t) (wB m c t)
    | ⟨4, _⟩ => ckV (hB m c t) (wB m c t)
    | ⟨5, _⟩ => cnV (hB m c t) (wB m c t)
    | ⟨6, _⟩ => sbV (hB m c t) (wB m c t)
    | ⟨7, _⟩ => k0_pay380 (F := Ideal) (hB m c t)
    | ⟨8, _⟩ => amAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yV (hB m c t) (xB m c t) (wB m c t) := by dsimp only [dats]
theorem after0_4 (c : Dev nD) (t : Fin cfg0.N) : (dats m 0 c).after 4 t = ckV (hB m c t) (wB m c t) := by dsimp only [dats]
theorem after0_5 (c : Dev nD) (t : Fin cfg0.N) : (dats m 0 c).after 5 t = cnV (hB m c t) (wB m c t) := by dsimp only [dats]
theorem after0_6 (c : Dev nD) (t : Fin cfg0.N) : (dats m 0 c).after 6 t = sbV (hB m c t) (wB m c t) := by dsimp only [dats]
theorem after0_7 (c : Dev nD) (t : Fin cfg0.N) : (dats m 0 c).after 7 t = k0_pay380 (F := Ideal) (hB m c t) := by dsimp only [dats]
theorem after0_8 (c : Dev nD) (t : Fin cfg0.N) : (dats m 0 c).after 8 t = amAt m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A point's only coordinate is its position. -/
theorem coord0 : ∀ t : Fin cfg0.N, (grid0.coords t 0).val = t.val := by decide +kernel

/-- What a point leaves in the running maxima, over what it found there. -/
theorem am_step (c : Dev nD) (t : Fin cfg0.N) (d) :
    amV (amIn (grid0.coords t 0).val ((dats m 0 c).before 8 t d)) (wB m c t) = amAt m c t.val t.isLt := by
  have hN : t.val < 32 := lt_of_lt_of_eq t.isLt (show cfg0.N = 32 from N_0)
  rw [coord0]
  by_cases h0 : t.val = 0
  · obtain ⟨n, hn⟩ := t
    obtain rfl : n = 0 := h0
    rfl
  · have hb : (dats m 0 c).before 8 t d = amAt m c (t.val - 1) (Nat.lt_of_le_of_lt (Nat.sub_le _ _) t.isLt) := by
      rw [Dat.before_out_kept _ 8 rfl t (by omega) (Bool.eq_false_iff.mpr fun h => by have := (flush0_8 _).mp h; dsimp only at this; omega)
        (fun _ => rfl) (fun _ _ => rfl)]
      dsimp only [dats]
    rw [hb]
    obtain ⟨n, hn⟩ := t
    obtain ⟨k, rfl⟩ : ∃ k, n = k + 1 := ⟨n - 1, by dsimp only at h0; omega⟩
    rfl

/-- What the region lends the body at every point: its four scratch buffers, each at something, and the generator register. -/
theorem PhiA0_eq (c : Dev nD) : (Pipeline.ΦA spec0 c : sProp 𝕄) =
    iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA
  rw [scopedRest0_eq]
  simp only [owns_whole]
  try rfl

set_option maxHeartbeats 800000 in
/-- The body at point `t`, on the windows one by one. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d)))
    ⊢ wp frame (wpE (defs₀ (F := Ideal)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ owns (c : Thread nD τ) (st0_6 t) fullShare ((dats m 0 c).after 6 t)
      ∗ owns (c : Thread nD τ) (st0_7 t) fullShare ((dats m 0 c).after 7 t)
      ∗ owns (c : Thread nD τ) (st0_8 t) fullShare ((dats m 0 c).after 8 t))) := by
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl]
  rw [PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← am_step m c t d8]
  iapply bodyVal c (grid0.coords t) _ _ _ _ _ _ _ _ _ _ _ _ _ _ _ _ _ _ _ _ _ _ _ _ _ _ (iblk m c 0 t) (iblk m c 1 t) (iblk m c 2 t) ((dats m 0 c).before 8 t d8)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- `run_main`, and every counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every execution ends with every array of the region at what its points left there, and every other buffer at what the
    lines after the region leave. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

end Cert.Proof.KernelIdealValue

end
-- ==== Proof.S.KFinal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.KernelIdeal.Points
public import proofs.«01_k».proof.Proof.S.KLoop
public import proofs.«01_k».proof.Proof.S.KCarry
public import proofs.«01_k».proof.Proof.S.KRun
public import proofs.«01_k».proof.Proof.S.KBody
public import proofs.«01_k».proof.Proof.S.KFrameVal
public import Idealize.ShloMosaic.Lib.Pipeline.Value
public import Idealize.ShloMosaic.Lib.Pointwise
public import Idealize.ShloMosaic.Lib.Tactic
public import Idealize.ShloMosaic.Lib.Pipeline.Kit
public import Idealize.ShloMosaic.Lib.Pipeline.FrameBody
public import Idealize.ShloMosaic.Lib.Pipeline.FrameSuffix

@[expose] public section

set_option maxRecDepth 16384

noncomputable section

namespace Cert.Proof.KernelIdealValue

open Cert.KernelIdeal Cert.KernelIdeal.Gen Cert.Proof.KernelIdeal Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## A band of 512 rows of the weights -/

section

variable {B W : ℕ → ℕ → EReal} {t : ℕ} (hW : ∀ r < 512, ∀ q < 6144, B r q = W (512 * t + r) q)
include hW

theorem bam_band {b k : ℕ} (hb : b < 32) (hk : k < 384) : bam B b k = bam W (32 * t + b) k := by
  unfold bam
  refine Finset.sup_congr rfl fun p _ => ?_
  have h1 := p.1.isLt
  have h2 := p.2.isLt
  rw [hW _ (by omega) _ (by omega)]
  congr 2; omega

theorem sB_band (st : EReal) {b k : ℕ} (hb : b < 32) (hk : k < 384) : sB st B b k = sB st W (32 * t + b) k := by
  unfold sB
  rw [bam_band hW hb hk]

theorem cB_band (st : EReal) {r q : ℕ} (hr : r < 512) (hq : q < 6144) : cB st B r q = cB st W (512 * t + r) q := by
  unfold cB vB
  rw [hW r hr q hq, sB_band hW st (b := r / 16) (k := q / 16) (by omega) (by omega), show (512 * t + r) / 16 = 32 * t + r / 16 by omega]

theorem wdB_band (st : EReal) {r q : ℕ} (hr : r < 512) (hq : q < 6144) : wdB st B r q = wdB st W (512 * t + r) q := by
  unfold wdB
  rw [cB_band hW st hr hq, sB_band hW st (b := r / 16) (k := q / 16) (by omega) (by omega), show (512 * t + r) / 16 = 32 * t + r / 16 by omega]

theorem ckB_band (st : EReal) {r n : ℕ} (hr : r < 512) (hn : n < 3072) : ckB st B r n = ckB st W (512 * t + r) n := by
  unfold ckB
  rw [cB_band hW st hr (by omega), cB_band hW st hr (by omega)]

theorem cnB_band (st : EReal) {q n : ℕ} (hq : q < 6144) (hn : n < 256) : cnB st B q n = cnB st W q (256 * t + n) := by
  unfold cnB
  rw [cB_band hW st (by omega) hq, cB_band hW st (by omega) hq]
  congr 2 <;> omega

end

/-! ## The blocks the windows read -/

/-- The weights of the launch, indexed by naturals. -/
def Wm (c : Dev nD) (r q : ℕ) : EReal :=
  if h : r < 16384 ∧ q < 6144 then (m ((c : Thread nD τ).loc main_arg1) : Vec Ideal S16384x6144 .bf16) (ix2 ⟨r, h.1⟩ ⟨q, h.2⟩) else 0

/-- The history as the region finds it, one row. -/
abbrev hV (c : Dev nD) : Vec Ideal S1x24 .f32 := V m c main_v1
/-- The activations as the region finds them, a matrix. -/
abbrev xV (c : Dev nD) : Vec Ideal S256x6144 .bf16 := V m c main_v0

theorem index2 : ∀ t : Fin cfg0.N, win0_2.index t 0 = t.val ∧ win0_2.index t 1 = 0 := by decide +kernel
theorem index3 : ∀ t : Fin cfg0.N, win0_3.index t 0 = 0 ∧ win0_3.index t 1 = t.val := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = t.val := by decide +kernel
theorem index6 : ∀ t : Fin cfg0.N, win0_6.index t 0 = t.val ∧ win0_6.index t 1 = 0 := by decide +kernel
theorem index0 : ∀ t : Fin cfg0.N, win0_0.index t 0 = 0 ∧ win0_0.index t 1 = 0 := by decide +kernel
theorem index1 : ∀ t : Fin cfg0.N, win0_1.index t 0 = 0 ∧ win0_1.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel

theorem lt32 (t : Fin cfg0.N) : t.val < 32 := lt_of_lt_of_eq t.isLt (show cfg0.N = 32 from N_0)

theorem hB_eq (c : Dev nD) (t : Fin cfg0.N) : hB m c t = hV m c := by
  funext y
  unfold hB iblk
  rw [View.read_apply]
  show (V m c main_v1 : Vec Ideal S1x24 .f32) _ = V m c main_v1 y
  congr 1
  funext a
  apply Fin.ext
  match a with
  | ⟨0, _⟩ => show win0_0.index t 0 * 1 + 1 * (y 0).val = (y 0).val; rw [(index0 t).1]; omega
  | ⟨1, _⟩ => show win0_0.index t 1 * 24 + 1 * (y 1).val = (y 1).val; rw [(index0 t).2]; omega

theorem xB_eq (c : Dev nD) (t : Fin cfg0.N) : xB m c t = xV m c := by
  funext y
  unfold xB iblk
  rw [View.read_apply]
  show (V m c main_v0 : Vec Ideal S256x6144 .bf16) _ = V m c main_v0 y
  congr 1
  funext a
  apply Fin.ext
  match a with
  | ⟨0, _⟩ => show win0_1.index t 0 * 256 + 1 * (y 0).val = (y 0).val; rw [(index1 t).1]; omega
  | ⟨1, _⟩ => show win0_1.index t 1 * 6144 + 1 * (y 1).val = (y 1).val; rw [(index1 t).2]; omega

/-- The weight block a point reads is its band of the weights. -/
theorem wB_band (c : Dev nD) (t : Fin cfg0.N) : ∀ r < 512, ∀ q < 6144, nat2 (wB m c t) r q = Wm m c (512 * t.val + r) q := by
  intro r hr q hq
  have ht := lt32 t
  unfold nat2 Wm
  rw [dif_pos ⟨hr, hq⟩, dif_pos ⟨by omega, hq⟩]
  unfold wB iblk
  rw [View.read_apply]
  show (V m c main_arg1 : Vec Ideal S16384x6144 .bf16) _ = _
  rw [V_main_arg1]
  refine congrArg _ (idx2_eq _ ⟨512 * t.val + r, by omega⟩ ⟨q, hq⟩ ?_ ?_)
  · show win0_2.index t 0 * 512 + 1 * r = 512 * t.val + r; rw [(index2 t).1]; omega
  · show win0_2.index t 1 * 6144 + 1 * q = q; rw [(index2 t).2]; omega

/-! ## The result arrays -/

/-- The tensor scale. -/
abbrev stV (c : Dev nD) : EReal := kst (hV m c)

/-- The block scales, the packed codes and the product as arrays. -/
def sbArr (c : Dev nD) : Vec Ideal S1024x384 .fp8e4m3 := fun y => sB (stV m c) (Wm m c) (y 0).val (y 1).val
@[inherit_doc sbArr] def ckArr (c : Dev nD) : Vec Ideal S16384x3072 .i8 := fun y => ckB (stV m c) (Wm m c) (y 0).val (y 1).val
@[inherit_doc sbArr] def cnArr (c : Dev nD) : Vec Ideal S6144x8192 .i8 := fun y => cnB (stV m c) (Wm m c) (y 0).val (y 1).val
@[inherit_doc sbArr] def yArr (c : Dev nD) : Vec Ideal S256x16384 .bf16 := fun y =>
  (∑ k : Fin 6144, (xV m c) (ix2 (y 0) k) * wdB (stV m c) (Wm m c) (y 1).val k.val) * stV m c

set_option backward.isDefEq.respectTransparency false in
theorem pay380_apply (v : Vec Ideal S1x24 .f32) (i j : Fin 1) : k0_pay380 (F := Ideal) v (ix2 i j) = kst v := by
  unfold kst stOf
  pointwise [k0_pay380]

set_option backward.isDefEq.respectTransparency false in
theorem pay377_apply (h : Vec Ideal S1x24 .f32) (w : Vec Ideal S512x6144 .bf16) (x : Vec Ideal S256x6144 .bf16) (i : Fin 256) (j : Fin 512) :
    k0_pay387 (F := Ideal) h w x (ix2 i j) = (∑ k : Fin 6144, x (ix2 i k) * w (ix2 j k)) * kst h := by
  pointwise [k0_pay387]
  rw [pay380_apply]

theorem flushed6 (c : Dev nD) (t : Fin cfg0.N) (hf : (cfg0.win 6).flush t = true) :
    (dats m 0 c).flushed 6 t = ((cfg0.win 6).blk t).view.read (Elt Ideal) (sbArr m c) := by
  show (cfg0.win 6).cut (grid0.coords t) ((dats m 0 c).after 6 t) = _
  rw [after0_6, hB_eq]
  funext y
  rw [View.read_apply]
  show sB (stV m c) (nat2 (wB m c t)) (y 0).val (y 1).val = sB (stV m c) (Wm m c) (win0_6.index t 0 * 32 + 1 * (y 0).val) (win0_6.index t 1 * 384 + 1 * (y 1).val)
  have h0 : (y 0).val < 32 := (y 0).isLt
  have h1 : (y 1).val < 384 := (y 1).isLt
  rw [(index6 t).1, (index6 t).2, sB_band (wB_band m c t) _ h0 h1]
  congr 1 <;> omega

theorem final6 (c : Dev nD) : (dats m 0 c).arrAt 6 cfg0.N = sbArr m c :=
  (dats m 0 c).arrAt_eq_of_cover 6 (sbArr m c) (flushed6 m c) fun i => by
    have h0 : (i 0).val < 1024 := (i 0).isLt
    have h1 : (i 1).val < 384 := (i 1).isLt
    obtain ⟨t, ht⟩ : ∃ t : Fin cfg0.N, t.val = (i 0).val / 32 := ⟨⟨(i 0).val / 32, by rw [show cfg0.N = 32 from N_0]; omega⟩, rfl⟩
    refine ⟨t, flush0_6 t, ?_⟩
    show i ∈ ((View.whole main_v2_3).slice (win0_6.rect t)).set
    rw [View.set_slice_whole, Rect.mem_set_unit]
    intro a
    match a with
    | ⟨0, _⟩ => show win0_6.index t 0 * 32 ≤ (i 0).val ∧ (i 0).val < win0_6.index t 0 * 32 + 32
                rw [(index6 t).1]; omega
    | ⟨1, _⟩ => show win0_6.index t 1 * 384 ≤ (i 1).val ∧ (i 1).val < win0_6.index t 1 * 384 + 384
                rw [(index6 t).2]; omega

theorem flushed4 (c : Dev nD) (t : Fin cfg0.N) (hf : (cfg0.win 4).flush t = true) :
    (dats m 0 c).flushed 4 t = ((cfg0.win 4).blk t).view.read (Elt Ideal) (ckArr m c) := by
  show (cfg0.win 4).cut (grid0.coords t) ((dats m 0 c).after 4 t) = _
  rw [after0_4, hB_eq]
  funext y
  rw [View.read_apply]
  show ckB (stV m c) (nat2 (wB m c t)) (y 0).val (y 1).val = ckB (stV m c) (Wm m c) (win0_4.index t 0 * 512 + 1 * (y 0).val) (win0_4.index t 1 * 3072 + 1 * (y 1).val)
  have h0 : (y 0).val < 512 := (y 0).isLt
  have h1 : (y 1).val < 3072 := (y 1).isLt
  rw [(index4 t).1, (index4 t).2, ckB_band (wB_band m c t) _ h0 h1]
  congr 1 <;> omega

theorem final4 (c : Dev nD) : (dats m 0 c).arrAt 4 cfg0.N = ckArr m c :=
  (dats m 0 c).arrAt_eq_of_cover 4 (ckArr m c) (flushed4 m c) fun i => by
    have h0 : (i 0).val < 16384 := (i 0).isLt
    have h1 : (i 1).val < 3072 := (i 1).isLt
    obtain ⟨t, ht⟩ : ∃ t : Fin cfg0.N, t.val = (i 0).val / 512 := ⟨⟨(i 0).val / 512, by rw [show cfg0.N = 32 from N_0]; omega⟩, rfl⟩
    refine ⟨t, flush0_4 t, ?_⟩
    show i ∈ ((View.whole main_v2_1).slice (win0_4.rect t)).set
    rw [View.set_slice_whole, Rect.mem_set_unit]
    intro a
    match a with
    | ⟨0, _⟩ => show win0_4.index t 0 * 512 ≤ (i 0).val ∧ (i 0).val < win0_4.index t 0 * 512 + 512
                rw [(index4 t).1]; omega
    | ⟨1, _⟩ => show win0_4.index t 1 * 3072 ≤ (i 1).val ∧ (i 1).val < win0_4.index t 1 * 3072 + 3072
                rw [(index4 t).2]; omega

theorem flushed5 (c : Dev nD) (t : Fin cfg0.N) (hf : (cfg0.win 5).flush t = true) :
    (dats m 0 c).flushed 5 t = ((cfg0.win 5).blk t).view.read (Elt Ideal) (cnArr m c) := by
  show (cfg0.win 5).cut (grid0.coords t) ((dats m 0 c).after 5 t) = _
  rw [after0_5, hB_eq]
  funext y
  rw [View.read_apply]
  show cnB (stV m c) (nat2 (wB m c t)) (y 0).val (y 1).val = cnB (stV m c) (Wm m c) (win0_5.index t 0 * 6144 + 1 * (y 0).val) (win0_5.index t 1 * 256 + 1 * (y 1).val)
  have h0 : (y 0).val < 6144 := (y 0).isLt
  have h1 : (y 1).val < 256 := (y 1).isLt
  rw [(index5 t).1, (index5 t).2, cnB_band (wB_band m c t) _ h0 h1]
  congr 1 <;> omega

theorem final5 (c : Dev nD) : (dats m 0 c).arrAt 5 cfg0.N = cnArr m c :=
  (dats m 0 c).arrAt_eq_of_cover 5 (cnArr m c) (flushed5 m c) fun i => by
    have h0 : (i 0).val < 6144 := (i 0).isLt
    have h1 : (i 1).val < 8192 := (i 1).isLt
    obtain ⟨t, ht⟩ : ∃ t : Fin cfg0.N, t.val = (i 1).val / 256 := ⟨⟨(i 1).val / 256, by rw [show cfg0.N = 32 from N_0]; omega⟩, rfl⟩
    refine ⟨t, flush0_5 t, ?_⟩
    show i ∈ ((View.whole main_v2_2).slice (win0_5.rect t)).set
    rw [View.set_slice_whole, Rect.mem_set_unit]
    intro a
    match a with
    | ⟨0, _⟩ => show win0_5.index t 0 * 6144 ≤ (i 0).val ∧ (i 0).val < win0_5.index t 0 * 6144 + 6144
                rw [(index5 t).1]; omega
    | ⟨1, _⟩ => show win0_5.index t 1 * 256 ≤ (i 1).val ∧ (i 1).val < win0_5.index t 1 * 256 + 256
                rw [(index5 t).2]; omega

theorem flushed3 (c : Dev nD) (t : Fin cfg0.N) (hf : (cfg0.win 3).flush t = true) :
    (dats m 0 c).flushed 3 t = ((cfg0.win 3).blk t).view.read (Elt Ideal) (yArr m c) := by
  show (cfg0.win 3).cut (grid0.coords t) ((dats m 0 c).after 3 t) = _
  rw [after0_3, hB_eq, xB_eq]
  funext y
  rw [View.read_apply]
  have h0 : (y 0).val < 256 := (y 0).isLt
  have h1 : (y 1).val < 512 := (y 1).isLt
  have ht := lt32 t
  have e0 : win0_3.index t 0 * 256 + 1 * (y 0).val = (y 0).val := by rw [(index3 t).1]; omega
  have e1 : win0_3.index t 1 * 512 + 1 * (y 1).val = 512 * t.val + (y 1).val := by rw [(index3 t).2]; omega
  refine (congrArg (yV (hV m c) (xV m c) (wB m c t)) (idx2_eq y ⟨(y 0).val, h0⟩ ⟨(y 1).val, h1⟩ rfl rfl)).trans ((pay377_apply _ _ _ _ _).trans ?_)
  show _ = (∑ k : Fin 6144, (xV m c) (ix2 ⟨win0_3.index t 0 * 256 + 1 * (y 0).val, _⟩ k) * wdB (stV m c) (Wm m c) (win0_3.index t 1 * 512 + 1 * (y 1).val) k.val) * stV m c
  refine congrArg (· * stV m c) (Finset.sum_congr rfl fun k _ => ?_)
  rw [e1]
  refine congrArg₂ (· * ·) ?_ (wdB_band (wB_band m c t) _ h1 k.isLt)
  exact congrArg (fun i => (xV m c) (ix2 i k)) (Fin.ext e0.symm)

theorem final3 (c : Dev nD) : (dats m 0 c).arrAt 3 cfg0.N = yArr m c :=
  (dats m 0 c).arrAt_eq_of_cover 3 (yArr m c) (flushed3 m c) fun i => by
    have h0 : (i 0).val < 256 := (i 0).isLt
    have h1 : (i 1).val < 16384 := (i 1).isLt
    obtain ⟨t, ht⟩ : ∃ t : Fin cfg0.N, t.val = (i 1).val / 512 := ⟨⟨(i 1).val / 512, by rw [show cfg0.N = 32 from N_0]; omega⟩, rfl⟩
    refine ⟨t, flush0_3 t, ?_⟩
    show i ∈ ((View.whole main_v2_0).slice (win0_3.rect t)).set
    rw [View.set_slice_whole, Rect.mem_set_unit]
    intro a
    match a with
    | ⟨0, _⟩ => show win0_3.index t 0 * 256 ≤ (i 0).val ∧ (i 0).val < win0_3.index t 0 * 256 + 256
                rw [(index3 t).1]; omega
    | ⟨1, _⟩ => show win0_3.index t 1 * 512 ≤ (i 1).val ∧ (i 1).val < win0_3.index t 1 * 512 + 512
                rw [(index3 t).2]; omega

end Cert.Proof.KernelIdealValue

end
-- ==== Proof.S.Outputs.lean ====
module

public import proofs.«01_k».proof.Proof.S.Spec
public import Idealize.ShloMosaic.Lib.Pointwise

@[expose] public section

/-! The six results as functions of the activations, the weights and the history, and the largest block maximum. -/

set_option maxRecDepth 16384

noncomputable section

namespace Cert.Proof.Spec

open Idealize.ShloMosaic

theorem kf_bot : kf 0xFF800000#32 = ⊥ := by simp [kf, Ideal.ofBits, Ideal.ieee]

theorem fold_max_le {α : Type} [DecidableEq α] (s : Finset α) (f : α → EReal) (z : EReal) : s.fold max (kf 0xFF800000#32) f ≤ z ↔ ∀ a ∈ s, f a ≤ z := by
  rw [Finset.fold_max_le, kf_bot]
  simp

theorem mag_nonneg (x : EReal) : 0 ≤ mag x := by
  unfold mag
  rcases le_total 0 x with h | h
  · exact le_max_of_le_left h
  · exact le_max_of_le_right (by rw [← neg_zero]; exact EReal.neg_le_neg_iff.mpr h)

theorem bam_nonneg (B : ℕ → ℕ → EReal) (b k : ℕ) : 0 ≤ bam B b k :=
  le_trans (mag_nonneg _) ((bam_le_iff B b k _).mp le_rfl 0 (by omega) 0 (by omega))

/-- The largest block maximum of all. -/
def wmax (W : ℕ → ℕ → EReal) : EReal := Finset.univ.sup fun p : Fin 1024 × Fin 384 => bam W p.1 p.2

theorem wmax_le (W : ℕ → ℕ → EReal) (z : EReal) : wmax W ≤ z ↔ ∀ b < 1024, ∀ k < 384, bam W b k ≤ z := by
  unfold wmax
  rw [Finset.sup_le_iff]
  exact ⟨fun h b hb k hk => h (⟨b, hb⟩, ⟨k, hk⟩) (Finset.mem_univ _), fun h p _ => h p.1 p.1.isLt p.2 p.2.isLt⟩

/-- An index from its coordinates. -/
theorem idx2_of {a b : ℕ} (x : (⟨2, ![a, b]⟩ : Shape).Idx) (i : Fin a) (j : Fin b) (h0 : (x 0).val = i.val) (h1 : (x 1).val = j.val) : x = ix2 i j := by
  funext t
  match t with
  | ⟨0, _⟩ => exact Fin.ext h0
  | ⟨1, _⟩ => exact Fin.ext h1

@[inherit_doc idx2_of] theorem idx3_of {a b c : ℕ} (x : (⟨3, ![a, b, c]⟩ : Shape).Idx) (i : Fin a) (j : Fin b) (k : Fin c) (h0 : (x 0).val = i.val)
    (h1 : (x 1).val = j.val) (h2 : (x 2).val = k.val) : x = ix3 i j k := by
  funext t
  match t with
  | ⟨0, _⟩ => exact Fin.ext h0
  | ⟨1, _⟩ => exact Fin.ext h1
  | ⟨2, _⟩ => exact Fin.ext h2

/-- The weights indexed by naturals. -/
def oW (w : (⟨2, ![16384, 6144]⟩ : Shape).Idx → EReal) (r q : ℕ) : EReal :=
  if h : r < 16384 ∧ q < 6144 then w (ix2 ⟨r, h.1⟩ ⟨q, h.2⟩) else 0

theorem oW_apply (w : (⟨2, ![16384, 6144]⟩ : Shape).Idx → EReal) (r : Fin 16384) (q : Fin 6144) : oW w r q = w (ix2 r q) := by
  unfold oW
  rw [dif_pos ⟨r.isLt, q.isLt⟩]

/-- The tensor scale. -/
def oSt (h : (⟨1, ![24]⟩ : Shape).Idx → EReal) : EReal := stOf fun j => h (ix1 j)

/-- The product with the decoded weights. -/
def oY (x : (⟨3, ![1, 256, 6144]⟩ : Shape).Idx → EReal) (w : (⟨2, ![16384, 6144]⟩ : Shape).Idx → EReal) (h : (⟨1, ![24]⟩ : Shape).Idx → EReal) :
    (⟨3, ![1, 256, 16384]⟩ : Shape).Idx → EReal :=
  fun i => (∑ k : Fin 6144, x (ix3 0 (i 1) k) * wdB (oSt h) (oW w) (i 2).val k.val) * oSt h

/-- The codes packed along the contracted dimension. -/
def oK (w : (⟨2, ![16384, 6144]⟩ : Shape).Idx → EReal) (h : (⟨1, ![24]⟩ : Shape).Idx → EReal) : (⟨2, ![16384, 3072]⟩ : Shape).Idx → BitVec 8 :=
  fun i => pack (cB (oSt h) (oW w) (i 0).val (2 * (i 1).val)) (cB (oSt h) (oW w) (i 0).val (2 * (i 1).val + 1))

/-- The codes of the transpose, packed along the rows of the weights. -/
def oN (w : (⟨2, ![16384, 6144]⟩ : Shape).Idx → EReal) (h : (⟨1, ![24]⟩ : Shape).Idx → EReal) : (⟨2, ![6144, 8192]⟩ : Shape).Idx → BitVec 8 :=
  fun i => pack (cB (oSt h) (oW w) (2 * (i 1).val) (i 0).val) (cB (oSt h) (oW w) (2 * (i 1).val + 1) (i 0).val)

/-- The block scales. -/
def oS (w : (⟨2, ![16384, 6144]⟩ : Shape).Idx → EReal) (h : (⟨1, ![24]⟩ : Shape).Idx → EReal) : (⟨2, ![1024, 384]⟩ : Shape).Idx → EReal :=
  fun i => sB (oSt h) (oW w) (i 0).val (i 1).val

end Cert.Proof.Spec

end
-- ==== Proof.S.KFinal2.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.KernelIdeal.Points
public import proofs.«01_k».proof.Proof.S.KLoop
public import proofs.«01_k».proof.Proof.S.KCarry
public import proofs.«01_k».proof.Proof.S.KRun
public import proofs.«01_k».proof.Proof.S.KFrameVal
public import proofs.«01_k».proof.Proof.S.KFinal
public import proofs.«01_k».proof.Proof.S.Outputs
public import Idealize.ShloMosaic.Lib.Pipeline.Value
public import Idealize.ShloMosaic.Lib.StableHlo.Run
public import Idealize.ShloMosaic.Lib.Pointwise
public import Idealize.ShloMosaic.Lib.Tactic
public import Idealize.ShloMosaic.Lib.Pipeline.Kit
public import Idealize.ShloMosaic.Lib.Pipeline.FrameBody
public import Idealize.ShloMosaic.Lib.Pipeline.FrameSuffix
public import Idealize.ShloMosaic.Lib.Claim

@[expose] public section

set_option maxRecDepth 16384

noncomputable section

namespace Cert.Proof.KernelIdealValue

open Cert.KernelIdeal Cert.KernelIdeal.Gen Cert.Proof.KernelIdeal Cert.Proof.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The running maxima -/

theorem amB_le (B a : ℕ → ℕ → EReal) (k i l : ℕ) (z : EReal) :
    amB B a k i l ≤ z ↔ a i l ≤ z ∧ ∀ p < k, ∀ g < 8, bam B ((8 * g + i) / 2) (16 * p + 8 * (i % 2) + l / 16) ≤ z := by
  unfold amB
  rw [max_le_iff, Finset.sup_le_iff]
  refine and_congr_right fun _ => ⟨fun h p hp g hg => h (p, g) (Finset.mem_product.mpr ⟨Finset.mem_range.mpr hp, Finset.mem_range.mpr hg⟩), fun h x hx => ?_⟩
  obtain ⟨h1, h2⟩ := Finset.mem_product.mp hx
  exact h x.1 (Finset.mem_range.mp h1) x.2 (Finset.mem_range.mp h2)

/-- After point `n` each cell of the running maxima bounds its share of the block maxima of the bands so far. -/
theorem amAt_le (c : Dev nD) : ∀ (n : ℕ) (hn : n < cfg0.N) (i : Fin 8) (l : Fin 128) (z : EReal),
    amAt m c n hn (ix2 i l) ≤ z ↔ 0 ≤ z ∧ ∀ t ≤ n, ∀ p < 24, ∀ g < 8, bam (Wm m c) (32 * t + (8 * g + i) / 2) (16 * p + 8 * (i % 2) + l / 16) ≤ z
  | 0, hn, i, l, z => by
    have hi := i.isLt
    have hl := l.isLt
    show amB (nat2 (wB m c ⟨0, hn⟩)) (fun _ _ => 0) 24 i l ≤ z ↔ _
    rw [amB_le]
    refine and_congr_right fun _ => ⟨fun h t ht p hp g hg => ?_, fun h p hp g hg => ?_⟩
    · obtain rfl : t = 0 := by omega
      rw [← bam_band (wB_band m c ⟨0, hn⟩) (by omega) (by omega)]
      exact h p hp g hg
    · rw [bam_band (wB_band m c ⟨0, hn⟩) (by omega) (by omega)]
      exact h 0 le_rfl p hp g hg
  | n + 1, hn, i, l, z => by
    have hi := i.isLt
    have hl := l.isLt
    show amB (nat2 (wB m c ⟨n + 1, hn⟩)) (amIn (n + 1) (amAt m c n (Nat.lt_of_succ_lt hn))) 24 i l ≤ z ↔ _
    have e : amIn (n + 1) (amAt m c n (Nat.lt_of_succ_lt hn)) i l = amAt m c n (Nat.lt_of_succ_lt hn) (ix2 i l) := by
      unfold amIn
      rw [if_neg (by omega), dif_pos ⟨hi, hl⟩]
    rw [amB_le, e, amAt_le c n, and_assoc]
    refine and_congr_right fun _ => ⟨fun h t ht p hp g hg => ?_, fun h => ⟨fun t ht p hp g hg => h t (by omega) p hp g hg, fun p hp g hg => ?_⟩⟩
    · rcases Nat.lt_or_ge n t with h1 | h1
      · obtain rfl : t = n + 1 := by omega
        rw [← bam_band (wB_band m c ⟨n + 1, hn⟩) (by omega) (by omega)]
        exact h.2 p hp g hg
      · exact h.1 t h1 p hp g hg
    · rw [bam_band (wB_band m c ⟨n + 1, hn⟩) (by omega) (by omega)]
      exact h (n + 1) le_rfl p hp g hg

/-- The running maxima after the last point. -/
abbrev amEnd (c : Dev nD) : Vec Ideal S8x128 .f32 := amAt m c 31 (by rw [show cfg0.N = 32 from N_0]; decide)

theorem flushed8 (c : Dev nD) (t : Fin cfg0.N) (hf : (cfg0.win 8).flush t = true) :
    (dats m 0 c).flushed 8 t = ((cfg0.win 8).blk t).view.read (Elt Ideal) (amEnd m c) := by
  show (cfg0.win 8).cut (grid0.coords t) ((dats m 0 c).after 8 t) = _
  have h31 : t.val = 31 := by have := (flush0_8 t).mp hf; have := lt32 t; omega
  obtain ⟨n, hn⟩ := t
  obtain rfl : n = 31 := h31
  rw [after0_8]
  funext y
  rw [View.read_apply]
  show amEnd m c y = amEnd m c _
  congr 1
  funext a
  apply Fin.ext
  match a with
  | ⟨0, _⟩ => show (y 0).val = win0_8.index ⟨31, hn⟩ 0 * 8 + 1 * (y 0).val; rw [(index8 _).1]; omega
  | ⟨1, _⟩ => show (y 1).val = win0_8.index ⟨31, hn⟩ 1 * 128 + 1 * (y 1).val; rw [(index8 _).2]; omega

theorem final8 (c : Dev nD) : (dats m 0 c).arrAt 8 cfg0.N = amEnd m c :=
  (dats m 0 c).arrAt_eq_of_cover 8 (amEnd m c) (flushed8 m c) fun i => by
    have h0 : (i 0).val < 8 := (i 0).isLt
    have h1 : (i 1).val < 128 := (i 1).isLt
    obtain ⟨t, ht⟩ : ∃ t : Fin cfg0.N, t.val = 31 := ⟨⟨31, by rw [show cfg0.N = 32 from N_0]; omega⟩, rfl⟩
    refine ⟨t, (flush0_8 t).mpr (by rw [ht]), ?_⟩
    show i ∈ ((View.whole main_v2_5).slice (win0_8.rect t)).set
    rw [View.set_slice_whole, Rect.mem_set_unit]
    intro a
    match a with
    | ⟨0, _⟩ => show win0_8.index t 0 * 8 ≤ (i 0).val ∧ (i 0).val < win0_8.index t 0 * 8 + 8
                rw [(index8 t).1]; omega
    | ⟨1, _⟩ => show win0_8.index t 1 * 128 ≤ (i 1).val ∧ (i 1).val < win0_8.index t 1 * 128 + 128
                rw [(index8 t).2]; omega

/-- The tensor scale as its one-cell array. -/
abbrev stArr (c : Dev nD) : Vec Ideal S1x1 .f32 := k0_pay380 (F := Ideal) (hV m c)

theorem flushed7 (c : Dev nD) (t : Fin cfg0.N) (hf : (cfg0.win 7).flush t = true) :
    (dats m 0 c).flushed 7 t = ((cfg0.win 7).blk t).view.read (Elt Ideal) (stArr m c) := by
  show (cfg0.win 7).cut (grid0.coords t) ((dats m 0 c).after 7 t) = _
  rw [after0_7, hB_eq]
  funext y
  rw [View.read_apply]
  show stArr m c y = stArr m c _
  congr 1
  funext a
  apply Fin.ext
  match a with
  | ⟨0, _⟩ => show (y 0).val = win0_7.index t 0 * 1 + 1 * (y 0).val; rw [(index7 _).1]; omega
  | ⟨1, _⟩ => show (y 1).val = win0_7.index t 1 * 1 + 1 * (y 1).val; rw [(index7 _).2]; omega

theorem final7 (c : Dev nD) : (dats m 0 c).arrAt 7 cfg0.N = stArr m c :=
  (dats m 0 c).arrAt_eq_of_cover 7 (stArr m c) (flushed7 m c) fun i => by
    have h0 : (i 0).val < 1 := (i 0).isLt
    have h1 : (i 1).val < 1 := (i 1).isLt
    obtain ⟨t, ht⟩ : ∃ t : Fin cfg0.N, t.val = 31 := ⟨⟨31, by rw [show cfg0.N = 32 from N_0]; omega⟩, rfl⟩
    refine ⟨t, (flush0_7 t).mpr (by rw [ht]), ?_⟩
    show i ∈ ((View.whole main_v2_4).slice (win0_7.rect t)).set
    rw [View.set_slice_whole, Rect.mem_set_unit]
    intro a
    match a with
    | ⟨0, _⟩ => show win0_7.index t 0 * 1 ≤ (i 0).val ∧ (i 0).val < win0_7.index t 0 * 1 + 1
                rw [(index7 t).1]; omega
    | ⟨1, _⟩ => show win0_7.index t 1 * 1 ≤ (i 1).val ∧ (i 1).val < win0_7.index t 1 * 1 + 1
                rw [(index7 t).2]; omega

/-! ## The lines after the region -/

set_option backward.isDefEq.respectTransparency false in
theorem red_apply (x : Vec Ideal S8x128 .f32) (y : S1.Idx) : (shapeCast S1 (Host.reduce (FloatOps.maximumf (F := Ideal) (φ := .f32)) x (constant (F := Ideal) S_ .f32 0xFF800000#32) reducesTo_S8x128_S_d0_1 h_S_) shapeCasts_S_S1 : Vec Ideal S1 .f32) y
    = Finset.univ.fold max (kf 0xFF800000#32) (fun k : Fin 8 × Fin 128 => x (ix2 k.1 k.2)) := by
  pointwise []

/-- The running maxima's largest is the weights' largest. -/
theorem amEnd_max (c : Dev nD) : Finset.univ.fold max (kf 0xFF800000#32) (fun k : Fin 8 × Fin 128 => amEnd m c (ix2 k.1 k.2)) = wmax (Wm m c) := by
  refine eq_of_forall_ge_iff fun z => ?_
  rw [fold_max_le, wmax_le]
  constructor
  · intro h b hb k hk
    have := (amAt_le m c 31 _ ⟨2 * (b % 4) + (k % 16) / 8, by omega⟩ ⟨16 * (k % 8), by omega⟩ z).mp (h (⟨2 * (b % 4) + (k % 16) / 8, by omega⟩, ⟨16 * (k % 8), by omega⟩) (Finset.mem_univ _))
    have h2 := this.2 (b / 32) (by omega) (k / 16) (by omega) (b % 32 / 4) (by omega)
    dsimp only at h2
    rw [show 32 * (b / 32) + (8 * (b % 32 / 4) + (2 * (b % 4) + k % 16 / 8)) / 2 = b by omega,
      show 16 * (k / 16) + 8 * ((2 * (b % 4) + k % 16 / 8) % 2) + 16 * (k % 8) / 16 = k by omega] at h2
    exact h2
  · intro h x _
    have h1 := x.1.isLt
    have h2 := x.2.isLt
    refine (amAt_le m c 31 _ x.1 x.2 z).mpr ⟨le_trans (bam_nonneg (Wm m c) 0 0) (h 0 (by omega) 0 (by omega)), fun t ht p hp g hg => h _ (by omega) _ (by omega)⟩

theorem arrRef_inj : Function.Injective (Pipeline.arrRef spec0) := by decide

/-- What the lines after the region find in the region's arrays. -/
theorem tail_arr (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 arrRef_inj c (V0 m c) _ w

theorem tail_v3 (c : Dev nD) : Pipeline.afterTail₀ cfgs (dats m) 0 (V0 m) [hostOps1] c main_v3 = (shapeCast S1x256x16384 (yArr m c) shapeCasts_S256x16384_S1x256x16384 : Vec Ideal S1x256x16384 .bf16) := by
  unfold Pipeline.afterTail₀
  after_results
  exact congrArg (fun z : Vec Ideal S256x16384 .bf16 => (shapeCast S1x256x16384 z shapeCasts_S256x16384_S1x256x16384 : Vec Ideal S1x256x16384 .bf16)) ((tail_arr m c 3).trans (final3 m c))

theorem tail_v4 (c : Dev nD) : Pipeline.afterTail₀ cfgs (dats m) 0 (V0 m) [hostOps1] c main_v4 = (shapeCast S1 (stArr m c) shapeCasts_S1x1_S1 : Vec Ideal S1 .f32) := by
  unfold Pipeline.afterTail₀
  after_results
  exact congrArg (fun z : Vec Ideal S1x1 .f32 => (shapeCast S1 z shapeCasts_S1x1_S1 : Vec Ideal S1 .f32)) ((tail_arr m c 7).trans (final7 m c))

theorem tail_v6 (c : Dev nD) : Pipeline.afterTail₀ cfgs (dats m) 0 (V0 m) [hostOps1] c main_v6 = (shapeCast S1 (Host.reduce (FloatOps.maximumf (F := Ideal) (φ := .f32)) (amEnd m c) (constant (F := Ideal) S_ .f32 0xFF800000#32) reducesTo_S8x128_S_d0_1 h_S_) shapeCasts_S_S1 : Vec Ideal S1 .f32) := by
  unfold Pipeline.afterTail₀
  after_results
  exact congrArg (fun z : Vec Ideal S8x128 .f32 => (shapeCast S1 (Host.reduce (FloatOps.maximumf (F := Ideal) (φ := .f32)) z (constant (F := Ideal) S_ .f32 0xFF800000#32) reducesTo_S8x128_S_d0_1 h_S_) shapeCasts_S_S1 : Vec Ideal S1 .f32)) ((tail_arr m c 8).trans (final8 m c))

/-! ## The lines before the region -/

theorem hV_eq (c : Dev nD) : hV m c = (shapeCast S1x24 (m ((c : Thread nD τ).loc main_arg2) : Vec Ideal S24 .f32) shapeCasts_S24_S1x24 : Vec Ideal S1x24 .f32) := by
  show StableHlo.after hostOps0 (fun b => m (c, b)) main_v1 = _
  after_results
  rfl

theorem xV_eq (c : Dev nD) : xV m c = (shapeCast S256x6144 (m ((c : Thread nD τ).loc main_arg0) : Vec Ideal S1x256x6144 .bf16) shapeCasts_S1x256x6144_S256x6144 : Vec Ideal S256x6144 .bf16) := by
  show StableHlo.after hostOps0 (fun b => m (c, b)) main_v0 = _
  after_results
  rfl

set_option backward.isDefEq.respectTransparency false in
theorem hist_apply (x : Vec Ideal S24 .f32) (j : Fin 24) : (shapeCast S1x24 x shapeCasts_S24_S1x24 : Vec Ideal S1x24 .f32) (ix2 0 j) = x (ix1 j) := by
  pointwise []

set_option backward.isDefEq.respectTransparency false in
theorem act_apply (x : Vec Ideal S1x256x6144 .bf16) (i : Fin 256) (k : Fin 6144) : (shapeCast S256x6144 x shapeCasts_S1x256x6144_S256x6144 : Vec Ideal S256x6144 .bf16) (ix2 i k) = x (ix3 0 i k) := by
  pointwise []

set_option backward.isDefEq.respectTransparency false in
theorem out_apply (x : Vec Ideal S256x16384 .bf16) (i : Fin 256) (k : Fin 16384) : (shapeCast S1x256x16384 x shapeCasts_S256x16384_S1x256x16384 : Vec Ideal S1x256x16384 .bf16) (ix3 0 i k) = x (ix2 i k) := by
  pointwise []

set_option backward.isDefEq.respectTransparency false in
theorem one_apply (x : Vec Ideal S1x1 .f32) (y : S1.Idx) : (shapeCast S1 x shapeCasts_S1x1_S1 : Vec Ideal S1 .f32) y = x (ix2 0 0) := by
  pointwise []

/-! ## The results -/

abbrev aX (c : Dev nD) : Vec Ideal S1x256x6144 .bf16 := m ((c : Thread nD τ).loc main_arg0)
abbrev aW (c : Dev nD) : Vec Ideal S16384x6144 .bf16 := m ((c : Thread nD τ).loc main_arg1)
abbrev aH (c : Dev nD) : Vec Ideal S24 .f32 := m ((c : Thread nD τ).loc main_arg2)

theorem stV_eq (c : Dev nD) : stV m c = oSt (aH m c) := by
  unfold stV kst oSt
  rw [hV_eq]
  exact congrArg stOf (funext fun j => hist_apply (aH m c) j)

theorem Wm_eq (c : Dev nD) : Wm m c = oW (aW m c) := rfl

theorem v3_eq (c : Dev nD) : Pipeline.afterTail₀ cfgs (dats m) 0 (V0 m) [hostOps1] c main_v3 = (oY (aX m c) (aW m c) (aH m c) : Vec Ideal S1x256x16384 .bf16) := by
  rw [tail_v3]
  funext i
  refine (congrArg _ (idx3_of i ⟨0, by omega⟩ (i 1) (i 2) (by have h0 : (i 0).val < 1 := (i 0).isLt; show (i 0).val = 0; omega) rfl rfl)).trans ((out_apply _ _ _).trans ?_)
  unfold yArr oY
  rw [stV_eq, Wm_eq]
  refine congrArg (· * oSt (aH m c)) (Finset.sum_congr rfl fun k _ => congrArg (· * _) ?_)
  rw [xV_eq]
  exact act_apply (aX m c) (i 1) k

theorem ckArr_eq (c : Dev nD) : ckArr m c = (oK (aW m c) (aH m c) : Vec Ideal S16384x3072 .i8) := by
  unfold ckArr
  rw [stV_eq, Wm_eq]
  rfl

theorem cnArr_eq (c : Dev nD) : cnArr m c = (oN (aW m c) (aH m c) : Vec Ideal S6144x8192 .i8) := by
  unfold cnArr
  rw [stV_eq, Wm_eq]
  rfl

theorem sbArr_eq (c : Dev nD) : sbArr m c = (oS (aW m c) (aH m c) : Vec Ideal S1024x384 .fp8e4m3) := by
  unfold sbArr
  rw [stV_eq, Wm_eq]
  rfl

theorem v4_eq (c : Dev nD) : Pipeline.afterTail₀ cfgs (dats m) 0 (V0 m) [hostOps1] c main_v4 = ((fun _ => oSt (aH m c)) : Vec Ideal S1 .f32) := by
  rw [tail_v4]
  funext y
  exact (one_apply _ y).trans ((pay380_apply _ _ _).trans (stV_eq m c))

theorem v6_eq (c : Dev nD) : Pipeline.afterTail₀ cfgs (dats m) 0 (V0 m) [hostOps1] c main_v6 = ((fun _ => wmax (oW (aW m c))) : Vec Ideal S1 .f32) := by
  rw [tail_v6]
  funext y
  exact (red_apply _ y).trans (amEnd_max m c)

/-- Every run ends with the six results at their functions of the arguments, and the arguments unchanged. -/
theorem run : θ_run defs (onTc (τ := τ) (main (F := Ideal))) ⟨m, fun _ => 0, ρ⟩ (fun r => ∀ c : Dev nD,
      r.2.mem ((c.tc : Thread nD τ).loc main_v3) = (oY (aX m c) (aW m c) (aH m c) : Vec Ideal S1x256x16384 .bf16)
      ∧ r.2.mem ((c.tc : Thread nD τ).loc main_v2_1) = (oK (aW m c) (aH m c) : Vec Ideal S16384x3072 .i8)
      ∧ r.2.mem ((c.tc : Thread nD τ).loc main_v2_2) = (oN (aW m c) (aH m c) : Vec Ideal S6144x8192 .i8)
      ∧ r.2.mem ((c.tc : Thread nD τ).loc main_v2_3) = (oS (aW m c) (aH m c) : Vec Ideal S1024x384 .fp8e4m3)
      ∧ r.2.mem ((c.tc : Thread nD τ).loc main_v4) = ((fun _ => oSt (aH m c)) : Vec Ideal S1 .f32)
      ∧ r.2.mem ((c.tc : Thread nD τ).loc main_v6) = ((fun _ => wmax (oW (aW m c))) : Vec Ideal S1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ?_) (θ_run_and (run_main m ρ) (frame_of m ρ (dats m) (A_eq m) (run_main m ρ)))
  exact ⟨((h.1 c).2 main_v3 (Pipeline.mem_restRefs_of main_v3 (by decide) (by decide))).trans (v3_eq m c),
    ((h.1 c).1 4).trans ((final4 m c).trans (ckArr_eq m c)), ((h.1 c).1 5).trans ((final5 m c).trans (cnArr_eq m c)),
    ((h.1 c).1 6).trans ((final6 m c).trans (sbArr_eq m c)),
    ((h.1 c).2 main_v4 (Pipeline.mem_restRefs_of main_v4 (by decide) (by decide))).trans (v4_eq m c),
    ((h.1 c).2 main_v6 (Pipeline.mem_restRefs_of main_v6 (by decide) (by decide))).trans (v6_eq m c),
    h.2 c⟩

end Cert.Proof.KernelIdealValue

end
-- ==== Proof.S.RCode.lean ====
module

public import proofs.«01_k».proof.Proof.S.Spec
public import Mathlib.Tactic.NormNum
public import Mathlib.Tactic.Linarith

@[expose] public section

/-! The reference's rounding: clip to `[-6, 6]`, round the absolute value to the four-bit grid half to even, read off the index.
    It gives the code that counts thresholds. -/

noncomputable section

namespace Cert.Proof.Spec

open Idealize.ShloMosaic

theorem kf_q : kf 0x3E800000#32 = ((1 / 4 : ℝ) : EReal) := by simp [kf, Ideal.ofBits, Ideal.ieee]; norm_num; rw [← EReal.coe_mul]; congr 1; norm_num
theorem kf_half : kf 0x3F000000#32 = ((1 / 2 : ℝ) : EReal) := by simp [kf, Ideal.ofBits, Ideal.ieee]; norm_num; rw [← EReal.coe_mul]; congr 1; norm_num
theorem kf_3q : kf 0x3F400000#32 = ((3 / 4 : ℝ) : EReal) := by simp [kf, Ideal.ofBits, Ideal.ieee]; norm_num; rw [← EReal.coe_mul]; congr 1; norm_num
theorem kf_5q : kf 0x3FA00000#32 = ((5 / 4 : ℝ) : EReal) := by simp [kf, Ideal.ofBits, Ideal.ieee]; norm_num; rw [← EReal.coe_mul]; congr 1; norm_num
theorem kf_7q : kf 0x3FE00000#32 = ((7 / 4 : ℝ) : EReal) := by simp [kf, Ideal.ofBits, Ideal.ieee]; norm_num; rw [← EReal.coe_mul]; congr 1; norm_num
theorem kf_5h : kf 0x40200000#32 = ((5 / 2 : ℝ) : EReal) := by simp [kf, Ideal.ofBits, Ideal.ieee]; norm_num; rw [← EReal.coe_mul]; congr 1; norm_num
theorem kf_7h : kf 0x40600000#32 = ((7 / 2 : ℝ) : EReal) := by simp [kf, Ideal.ofBits, Ideal.ieee]; norm_num; rw [← EReal.coe_mul]; congr 1; norm_num
theorem kf_5 : kf 0x40A00000#32 = ((5 : ℝ) : EReal) := by simp [kf, Ideal.ofBits, Ideal.ieee]; norm_num; rw [← EReal.coe_mul]; congr 1; norm_num
theorem kf_2 : kf 0x40000000#32 = ((2 : ℝ) : EReal) := by simp [kf, Ideal.ofBits, Ideal.ieee]; norm_num; rw [← EReal.coe_mul]; congr 1; norm_num
theorem kf_4 : kf 0x40800000#32 = ((4 : ℝ) : EReal) := by simp [kf, Ideal.ofBits, Ideal.ieee]; norm_num; rw [← EReal.coe_mul]; congr 1; norm_num
theorem kf_6 : kf 0x40C00000#32 = ((6 : ℝ) : EReal) := by simp [kf, Ideal.ofBits, Ideal.ieee]; norm_num; rw [← EReal.coe_mul]; congr 1; norm_num
theorem kf_m6 : kf 0xC0C00000#32 = ((-6 : ℝ) : EReal) := by simp [kf, Ideal.ofBits, Ideal.ieee]; norm_num; rw [← EReal.coe_mul]; congr 1; norm_num

/-- A value clipped to the grid's range. -/
def clip (v : EReal) : EReal := min (kf 0x40C00000#32) (max (kf 0xC0C00000#32) v)

/-- An absolute value rounded half to even to the grid 0, 1/2, 1, 3/2, 2, 3, 4, 6. -/
def rq (a : EReal) : EReal :=
  if a < kf 0x40000000#32 then Ideal.div (Ideal.liftRound Ideal.roundHalfEven (kf 0x40000000#32 * a)) (kf 0x40000000#32)
  else if a < kf 0x40800000#32 then Ideal.liftRound Ideal.roundHalfEven a
  else kf 0x40000000#32 * Ideal.liftRound Ideal.roundHalfEven (Ideal.div a (kf 0x40000000#32))

/-- The index of a grid value. -/
def rix (q : EReal) : EReal :=
  if q < kf 0x40000000#32 then kf 0x40000000#32 * q
  else if q < kf 0x40800000#32 then q + kf 0x40000000#32
  else Ideal.div q (kf 0x40000000#32) + kf 0x40800000#32

/-- The code as the reference writes it. -/
def refCode (v : EReal) : BitVec 32 :=
  ((if clip v < 0 then 1#32 else 0#32) <<< 3) ||| Ideal.fptosi 32 (rix (rq (mag (clip v))))

/-- Rounding half to even, from the nearest integer. -/
theorem rhe_eq (r : ℝ) (n : ℤ) (h : |r - n| ≤ 1 / 2) (ht : ¬ Even n → |r - n| ≠ 1 / 2) : Ideal.roundHalfEven r = n := by
  unfold Ideal.roundHalfEven
  rw [abs_le] at h
  by_cases hn : (n : ℝ) ≤ r
  · have hf : ⌊r⌋ = n := by rw [Int.floor_eq_iff]; constructor <;> linarith
    simp only [hf]
    by_cases h2 : r - n < 1 / 2
    · rw [if_pos h2]
    · have he : r - n = 1 / 2 := le_antisymm h.2 (not_lt.mp h2)
      have hev : Even n := by
        by_contra hc
        exact ht hc (by rw [he]; norm_num)
      rw [if_neg h2, if_neg (by linarith), if_pos hev]
  · have hf : ⌊r⌋ = n - 1 := by rw [Int.floor_eq_iff]; push_cast; constructor <;> linarith
    simp only [hf]
    push_cast
    rw [if_neg (by linarith)]
    by_cases h2 : (1 : ℝ) / 2 < r - (n - 1)
    · rw [if_pos h2]; ring
    · have he : r - n = -(1 / 2) := by linarith
      have hev : Even n := by
        by_contra hc
        exact ht hc (by rw [he]; norm_num)
      rw [if_neg h2, if_neg (by rw [Int.even_sub_one]; simpa using hev)]
      ring

theorem rq_lo (a : ℝ) (n : ℤ) (h : a < 2) (hr : Ideal.roundHalfEven (2 * a) = n) : rq a = ((n / 2 : ℝ) : EReal) := by
  unfold rq
  rw [kf_2, if_pos (by exact_mod_cast h), ← EReal.coe_mul, Ideal.liftRound_coe, hr, Ideal.div_coe (by norm_num), ← EReal.coe_mul]
  congr 1; ring

theorem rq_mid (a : ℝ) (n : ℤ) (h : 2 ≤ a) (h4 : a < 4) (hr : Ideal.roundHalfEven a = n) : rq a = ((n : ℝ) : EReal) := by
  unfold rq
  rw [kf_2, kf_4, if_neg (by rw [not_lt]; exact_mod_cast h), if_pos (by exact_mod_cast h4), Ideal.liftRound_coe, hr]

theorem rq_hi (a : ℝ) (n : ℤ) (h : 4 ≤ a) (hr : Ideal.roundHalfEven (a / 2) = n) : rq a = ((2 * n : ℝ) : EReal) := by
  unfold rq
  rw [kf_2, kf_4, if_neg (by rw [not_lt]; exact_mod_cast (by linarith : (2 : ℝ) ≤ a)), if_neg (by rw [not_lt]; exact_mod_cast h),
    Ideal.div_coe (by norm_num), ← EReal.coe_mul, show a * (1 / 2) = a / 2 by ring, Ideal.liftRound_coe, hr, ← EReal.coe_mul]

theorem rix_coe (q : ℝ) : rix q = ((if q < 2 then 2 * q else if q < 4 then q + 2 else q / 2 + 4 : ℝ) : EReal) := by
  unfold rix
  rw [kf_2, kf_4]
  simp only [EReal.coe_lt_coe_iff]
  split_ifs
  · rw [EReal.coe_mul]
  · rw [EReal.coe_add]
  · rw [Ideal.div_coe (by norm_num), ← EReal.coe_mul, ← EReal.coe_add]
    congr 1; ring

theorem fptosi_nat (n : ℕ) (h : n < 8) : Ideal.fptosi 32 (((n : ℕ) : ℝ) : EReal) = BitVec.ofNat 32 n := by
  unfold Ideal.fptosi
  rw [Ideal.toIntClamped_coe, if_pos (by positivity), Int.floor_natCast]
  interval_cases n <;> rfl

/-- The seven threshold tests of an absolute value, counted. -/
def cnt (a : ℝ) : BitVec 32 :=
  (if 1 / 4 < a then 1#32 else 0#32) + (if 3 / 4 ≤ a then 1#32 else 0#32) + (if 5 / 4 < a then 1#32 else 0#32) + (if 7 / 4 ≤ a then 1#32 else 0#32)
    + (if 5 / 2 < a then 1#32 else 0#32) + (if 7 / 2 ≤ a then 1#32 else 0#32) + (if 5 < a then 1#32 else 0#32)

/-- The reference's index of an absolute value, from the grid value it rounds to. -/
theorem idx_of (a q : ℝ) (n : ℕ) (hn : n < 8) (hq : rq a = (q : EReal)) (hi : (if q < 2 then 2 * q else if q < 4 then q + 2 else q / 2 + 4) = (n : ℝ)) :
    Ideal.fptosi 32 (rix (rq a)) = BitVec.ofNat 32 n := by
  rw [hq, rix_coe, hi, fptosi_nat n hn]

theorem idx_cnt (a : ℝ) (h0 : 0 ≤ a) (h6 : a ≤ 6) : Ideal.fptosi 32 (rix (rq a)) = cnt a := by
  have lo (n : ℕ) (hn : n < 4) (h2 : a < 2) (h : |2 * a - (n : ℤ)| ≤ 1 / 2) (ht : ¬ Even (n : ℤ) → |2 * a - (n : ℤ)| ≠ 1 / 2) :
      Ideal.fptosi 32 (rix (rq a)) = BitVec.ofNat 32 n := by
    refine idx_of a _ n (by omega) (rq_lo a n h2 (rhe_eq _ _ h ht)) ?_
    have : (n : ℝ) < 4 := by exact_mod_cast hn
    push_cast
    rw [if_pos (by linarith)]
    ring
  have mid (n : ℕ) (h2 : 2 ≤ a) (h4 : a < 4) (hn : n = 2 ∨ n = 3 ∨ n = 4) (h : |a - (n : ℤ)| ≤ 1 / 2) (ht : ¬ Even (n : ℤ) → |a - (n : ℤ)| ≠ 1 / 2) :
      Ideal.fptosi 32 (rix (rq a)) = BitVec.ofNat 32 (n + 2) := by
    refine idx_of a _ (n + 2) (by omega) (rq_mid a n h2 h4 (rhe_eq _ _ h ht)) ?_
    rcases hn with rfl | rfl | rfl <;> norm_num
  have hi (n : ℕ) (h4 : 4 ≤ a) (hn : n = 2 ∨ n = 3) (h : |a / 2 - (n : ℤ)| ≤ 1 / 2) (ht : ¬ Even (n : ℤ) → |a / 2 - (n : ℤ)| ≠ 1 / 2) :
      Ideal.fptosi 32 (rix (rq a)) = BitVec.ofNat 32 (n + 4) := by
    refine idx_of a _ (n + 4) (by omega) (rq_hi a n h4 (rhe_eq _ _ h ht)) ?_
    rcases hn with rfl | rfl <;> norm_num
  have ev (x : ℝ) (n : ℕ) (hn : Even n) (h : |x - (n : ℤ)| ≤ 1 / 2) : ¬ Even (n : ℤ) → |x - (n : ℤ)| ≠ 1 / 2 :=
    fun hc => absurd (by exact_mod_cast hn) hc
  have od (x : ℝ) (n : ℕ) (h : |x - (n : ℤ)| < 1 / 2) : ¬ Even (n : ℤ) → |x - (n : ℤ)| ≠ 1 / 2 := fun _ => h.ne
  have near (x y e : ℝ) (h1 : y - e ≤ x) (h2 : x ≤ y + e) : |x - y| ≤ e := abs_le.mpr ⟨by linarith, by linarith⟩
  have nearS (x y e : ℝ) (h1 : y - e < x) (h2 : x < y + e) : |x - y| < e := abs_lt.mpr ⟨by linarith, by linarith⟩
  unfold cnt
  by_cases c1 : 1 / 4 < a
  swap
  · have := near (2 * a) ((0 : ℕ) : ℤ) (1 / 2) (by push_cast; linarith) (by push_cast; linarith)
    rw [lo 0 (by omega) (by linarith) this (ev _ 0 (by decide) this), if_neg c1, if_neg (by linarith), if_neg (by linarith), if_neg (by linarith), if_neg (by linarith), if_neg (by linarith), if_neg (by linarith)]
    rfl
  by_cases c2 : 3 / 4 ≤ a
  swap
  · have := nearS (2 * a) ((1 : ℕ) : ℤ) (1 / 2) (by push_cast; linarith) (by push_cast; linarith)
    rw [lo 1 (by omega) (by linarith) this.le (od _ 1 this), if_pos c1, if_neg c2, if_neg (by linarith), if_neg (by linarith), if_neg (by linarith), if_neg (by linarith), if_neg (by linarith)]
    rfl
  by_cases c3 : 5 / 4 < a
  swap
  · have := near (2 * a) ((2 : ℕ) : ℤ) (1 / 2) (by push_cast; linarith) (by push_cast; linarith)
    rw [lo 2 (by omega) (by linarith) this (ev _ 2 (by decide) this), if_pos c1, if_pos c2, if_neg c3, if_neg (by linarith), if_neg (by linarith), if_neg (by linarith), if_neg (by linarith)]
    rfl
  by_cases c4 : 7 / 4 ≤ a
  swap
  · have := nearS (2 * a) ((3 : ℕ) : ℤ) (1 / 2) (by push_cast; linarith) (by push_cast; linarith)
    rw [lo 3 (by omega) (by linarith) this.le (od _ 3 this), if_pos c1, if_pos c2, if_pos c3, if_neg c4, if_neg (by linarith), if_neg (by linarith), if_neg (by linarith)]
    rfl
  by_cases c5 : 5 / 2 < a
  swap
  · rw [if_pos c1, if_pos c2, if_pos c3, if_pos c4, if_neg c5, if_neg (by linarith), if_neg (by linarith)]
    by_cases h2 : 2 ≤ a
    · have := near a ((2 : ℕ) : ℤ) (1 / 2) (by push_cast; linarith) (by push_cast; linarith)
      rw [mid 2 h2 (by linarith) (by omega) this (ev _ 2 (by decide) this)]
      rfl
    · have h := near (2 * a) ((4 : ℕ) : ℤ) (1 / 2) (by push_cast; linarith) (by push_cast; linarith)
      rw [idx_of a _ 4 (by omega) (rq_lo a (4 : ℕ) (by linarith) (rhe_eq _ _ h (ev _ 4 (by decide) h))) (by norm_num)]
      rfl
  by_cases c6 : 7 / 2 ≤ a
  swap
  · have := nearS a ((3 : ℕ) : ℤ) (1 / 2) (by push_cast; linarith) (by push_cast; linarith)
    rw [mid 3 (by linarith) (by linarith) (by omega) this.le (od _ 3 this), if_pos c1, if_pos c2, if_pos c3, if_pos c4, if_pos c5, if_neg c6, if_neg (by linarith)]
    rfl
  by_cases c7 : 5 < a
  swap
  · rw [if_pos c1, if_pos c2, if_pos c3, if_pos c4, if_pos c5, if_pos c6, if_neg c7]
    by_cases h4 : 4 ≤ a
    · have := near (a / 2) ((2 : ℕ) : ℤ) (1 / 2) (by push_cast; linarith) (by push_cast; linarith)
      rw [hi 2 h4 (by omega) this (ev _ 2 (by decide) this)]
      rfl
    · have := near a ((4 : ℕ) : ℤ) (1 / 2) (by push_cast; linarith) (by push_cast; linarith)
      rw [mid 4 (by linarith) (by linarith) (by omega) this (ev _ 4 (by decide) this)]
      rfl
  have := nearS (a / 2) ((3 : ℕ) : ℤ) (1 / 2) (by push_cast; linarith) (by push_cast; linarith)
  rw [hi 3 (by linarith) (by omega) this.le (od _ 3 this), if_pos c1, if_pos c2, if_pos c3, if_pos c4, if_pos c5, if_pos c6, if_pos c7]
  rfl

theorem mag_coe (r : ℝ) : mag (r : EReal) = ((|r| : ℝ) : EReal) := by
  unfold mag
  rw [← EReal.coe_neg, abs_eq_max_neg]
  exact (EReal.coe_strictMono.monotone.map_max).symm

theorem code_coe (r : ℝ) : code (r : EReal) = (if r < 0 then 8#32 else 0#32) + cnt |r| := by
  unfold code cnt
  rw [mag_coe, kf_q, kf_3q, kf_5q, kf_7q, kf_5h, kf_7h, kf_5]
  simp only [EReal.coe_lt_coe_iff, EReal.coe_le_coe_iff, EReal.coe_neg', BitVec.add_assoc]

theorem cnt_lt (a : ℝ) : (cnt a).toNat < 8 := by
  have h : ∀ b c d e f g h : Bool, ((if b then 1#32 else 0#32) + (if c then 1#32 else 0#32) + (if d then 1#32 else 0#32)
      + (if e then 1#32 else 0#32) + (if f then 1#32 else 0#32) + (if g then 1#32 else 0#32) + (if h then 1#32 else 0#32) : BitVec 32).toNat < 8 := by decide
  have := h (decide (1 / 4 < a)) (decide (3 / 4 ≤ a)) (decide (5 / 4 < a)) (decide (7 / 4 ≤ a)) (decide (5 / 2 < a)) (decide (7 / 2 ≤ a)) (decide (5 < a))
  simp only [decide_eq_true_eq] at this
  exact this

/-- Setting the sign bit over an index is adding eight. -/
theorem or_sign (p : Prop) [Decidable p] (z : BitVec 32) (hz : z.toNat < 8) : ((if p then 1#32 else 0#32) <<< 3) ||| z = (if p then 8#32 else 0#32) + z := by
  obtain ⟨n, hn, rfl⟩ : ∃ n < 8, z = BitVec.ofNat 32 n := ⟨z.toNat, hz, by simp⟩
  by_cases hp : p <;> simp only [hp, if_true, if_false] <;> interval_cases n <;> rfl

theorem cnt_clip (r : ℝ) : cnt (min 6 |r|) = cnt |r| := by
  unfold cnt
  simp only [lt_min_iff, le_min_iff]
  norm_num

theorem abs_clip (r : ℝ) : |min 6 (max (-6) r)| = min 6 |r| := by
  rcases le_total 0 r with h | h
  · rw [max_eq_right (by linarith), abs_of_nonneg (le_min (by norm_num) h), abs_of_nonneg h]
  · rw [abs_of_nonpos h, min_eq_right (max_le (by norm_num) (by linarith)), abs_of_nonpos (max_le (by norm_num) h), ← min_neg_neg, neg_neg]

theorem refCode_real (u : ℝ) (h : |u| ≤ 6) (v : EReal) (hv : clip v = (u : EReal)) : refCode v = (if u < 0 then 8#32 else 0#32) + cnt |u| := by
  unfold refCode
  rw [hv, mag_coe, idx_cnt _ (abs_nonneg u) h, or_sign _ _ (cnt_lt _)]
  simp only [EReal.coe_neg']

theorem clip_coe (r : ℝ) : clip (r : EReal) = ((min 6 (max (-6) r) : ℝ) : EReal) := by
  unfold clip
  rw [kf_6, kf_m6, ← EReal.coe_strictMono.monotone.map_max, ← EReal.coe_strictMono.monotone.map_min]

/-- The reference's code of a value is the count of thresholds with the sign bit. -/
theorem refCode_eq (v : EReal) : refCode v = code v := by
  induction v using EReal.rec with
  | bot =>
    rw [refCode_real (-6) (by norm_num) ⊥ (by unfold clip; rw [kf_6, kf_m6, max_eq_left bot_le, ← EReal.coe_strictMono.monotone.map_min]; norm_num)]
    unfold code cnt mag
    norm_num [EReal.bot_lt_coe, kf_q, kf_3q, kf_5q, kf_7q, kf_5h, kf_7h, kf_5]
    rfl
  | top =>
    rw [refCode_real 6 (by norm_num) ⊤ (by unfold clip; rw [kf_6, kf_m6, max_eq_right le_top, min_eq_left le_top])]
    unfold code cnt mag
    norm_num [kf_q, kf_3q, kf_5q, kf_7q, kf_5h, kf_7h, kf_5]
  | coe r =>
    rw [refCode_real _ (by rw [abs_clip]; exact min_le_left _ _) _ (clip_coe r), abs_clip, cnt_clip, code_coe]
    congr 2
    refine propext ⟨fun h => ?_, fun h => lt_of_le_of_lt (min_le_right _ _) (max_lt (by norm_num) h)⟩
    by_contra hc
    exact absurd h (not_lt.mpr (le_min (by norm_num) (le_max_of_le_right (not_lt.mp hc))))

end Cert.Proof.Spec

end
-- ==== Proof.S.RVals.lean ====
module

public import proofs.«01_k».proof.Proof.Gen.ReferenceIdeal
public import proofs.«01_k».proof.Proof.Gen.ReferenceIdeal.Skeleton
public import proofs.«01_k».proof.Proof.Gen.ReferenceIdeal.Frame
public import proofs.«01_k».proof.Proof.Gen.ReferenceIdeal.Points
public import proofs.«01_k».proof.Proof.S.Spec
public import proofs.«01_k».proof.Proof.S.RCode
public import proofs.«01_k».proof.Proof.S.Outputs
public import Idealize.ShloMosaic.Lib.Pipeline.Value
public import Idealize.ShloMosaic.Lib.StableHlo.Run
public import Idealize.ShloMosaic.Lib.Pointwise
public import Idealize.ShloMosaic.Lib.Tactic

@[expose] public section

/-! The reference's payloads and host lines, element by element. -/

set_option maxRecDepth 16384

noncomputable section

namespace Cert.Proof.ReferenceIdealValue

open Cert.ReferenceIdeal Cert.ReferenceIdeal.Gen Cert.Proof.Spec
open Idealize.ShloMosaic Idealize.ShloMosaic.TcCoe Idealize.ShloMosaic.Tactic
open Idealize.SL Idealize.SL.RA Idealize.SL.BI
open Idealize.ShloMosaic.Pipeline (Dat Cfg Window)

/-! ## The quantiser in the kernel of one point -/

/-- A weight over its block's full scale, where the full scale is positive. -/
theorem quot_eq (d w : EReal) : (if 0 < d then Ideal.div w (if 0 < d then d else 1) else 0) = w * (if 0 < d then Ideal.div 1 d else 0) := by
  by_cases h : 0 < d
  · simp only [if_pos h]
    unfold Ideal.div
    rw [if_neg h.ne', if_neg h.ne', one_mul]
  · simp only [if_neg h, mul_zero]

set_option backward.isDefEq.respectTransparency false in
theorem pay5_apply (st : Vec Ideal S1x1 .f32) (s : Vec Ideal S1024x384 .f32) (w : Vec Ideal S16384x6144 .bf16) (r : Fin 16384) (q : Fin 6144) :
    k0_pay5 (F := Ideal) st s w (ix2 r q) = clip (w (ix2 r q) * rcOf (st (ix2 0 0)) (s (ix2 ⟨r / 16, by omega⟩ ⟨q / 16, by omega⟩))) := by
  unfold rcOf clip
  rw [← quot_eq]
  pointwise [k0_pay5, k0_pay4, k0_pay3, k0_pay2]

/-- The code as an array of the quantiser's values. -/
abbrev codes (st : Vec Ideal S1x1 .f32) (s : Vec Ideal S1024x384 .f32) (w : Vec Ideal S16384x6144 .bf16) : IVec S16384x6144 32 :=
  k0_pay12 (F := Ideal) (k0_pay5 st s w) (k0_pay7 st s w) (k0_pay8 st s w) (k0_pay9 st s w) (k0_pay10 st s w) (k0_pay11 st s w) (Scalar.ofBits .f32 0x40000000#32)

theorem word (p : Prop) [Decidable p] (z : BitVec 32) :
    IntOp.ori (IntOp.shli ArithUnit.vector (BitVec.setWidth 32 (BitVec.ofBool (decide p))) 3#32) z = ((if p then 1#32 else 0#32) <<< 3) ||| z := by
  by_cases h : p <;> simp only [h, decide_true, decide_false, if_true, if_false] <;> rfl

set_option backward.isDefEq.respectTransparency false in
theorem codes_apply (st : Vec Ideal S1x1 .f32) (s : Vec Ideal S1024x384 .f32) (w : Vec Ideal S16384x6144 .bf16) (r : Fin 16384) (q : Fin 6144) :
    codes st s w (ix2 r q) = code (w (ix2 r q) * rcOf (st (ix2 0 0)) (s (ix2 ⟨r / 16, by omega⟩ ⟨q / 16, by omega⟩))) := by
  rw [← refCode_eq]
  unfold refCode
  rw [← pay5_apply]
  unfold codes
  pointwise [k0_pay12, k0_pay11, k0_pay10, k0_pay9, k0_pay8, k0_pay7, k0_pay6]
  generalize k0_pay5 st s w (ix2 r q) = u
  change IntOp.ori _ (Ideal.fptosi 32 (rix (rq (mag u)))) = _
  exact word _ _

set_option backward.isDefEq.respectTransparency false in
theorem pay13_apply (a : FVec Ideal S16384x6144 .f32) (b : IVec S16384x6144 1) (d : FVec Ideal S16384x6144 .f32) (e : IVec S16384x6144 1) (f g : FVec Ideal S16384x6144 .f32) (c : Ideal .f32) (r : Fin 16384) (q : Fin 3072) :
    k0_pay13 (F := Ideal) a b d e f g c (ix2 r q) = pack (k0_pay12 (F := Ideal) a b d e f g c (ix2 r ⟨q * 2, by omega⟩)) (k0_pay12 (F := Ideal) a b d e f g c (ix2 r ⟨q * 2 + 1, by omega⟩)) := by
  unfold k0_pay13
  generalize k0_pay12 a b d e f g c = z
  pointwise []
  rfl

set_option backward.isDefEq.respectTransparency false in
theorem pay14_apply (a : FVec Ideal S16384x6144 .f32) (b : IVec S16384x6144 1) (d : FVec Ideal S16384x6144 .f32) (e : IVec S16384x6144 1) (f g : FVec Ideal S16384x6144 .f32) (c : Ideal .f32) (r : Fin 6144) (q : Fin 8192) :
    k0_pay14 (F := Ideal) a b d e f g c (ix2 r q) = pack (k0_pay12 (F := Ideal) a b d e f g c (ix2 ⟨q * 2, by omega⟩ r)) (k0_pay12 (F := Ideal) a b d e f g c (ix2 ⟨q * 2 + 1, by omega⟩ r)) := by
  unfold k0_pay14
  generalize k0_pay12 a b d e f g c = z
  pointwise []
  rfl

/-- Whether a bit of a code is set. -/
abbrev bit (c b : BitVec 32) : BitVec 1 := IntOp.cmpi CmpIPredicate.ne (IntOp.andi c b) 0#32

/-- The absolute value by the three low bits. -/
def bitMag (c : BitVec 32) : EReal :=
  Scalar.select (bit c 4#32)
    (Scalar.select (bit c 2#32) (Scalar.select (bit c 1#32) (kf 0x40C00000#32) (kf 0x40800000#32)) (Scalar.select (bit c 1#32) (kf 0x40400000#32) (kf 0x40000000#32)))
    (Scalar.select (bit c 2#32) (Scalar.select (bit c 1#32) (kf 0x3FC00000#32) 1) (Scalar.select (bit c 1#32) (kf 0x3F000000#32) 0))

theorem bitMag_eq (c : BitVec 32) (h : c.toNat < 16) : bitMag c = decMag c := by
  obtain ⟨n, hn, rfl⟩ : ∃ n < 16, c = BitVec.ofNat 32 n := ⟨c.toNat, h, by simp⟩
  unfold bitMag decMag
  generalize kf 0x40C00000#32 = x6
  generalize kf 0x40800000#32 = x4
  generalize kf 0x40400000#32 = x3
  generalize kf 0x40000000#32 = x2
  generalize kf 0x3FC00000#32 = x1
  generalize kf 0x3F000000#32 = x0
  interval_cases n <;> rfl

theorem bitDec_eq (c : BitVec 32) (h : c.toNat < 16) : Scalar.select (bit c 8#32) (0 - bitMag c) (bitMag c) = dec c := by
  rw [bitMag_eq c h]
  unfold dec
  generalize decMag c = x
  obtain ⟨n, hn, rfl⟩ : ∃ n < 16, c = BitVec.ofNat 32 n := ⟨c.toNat, h, by simp⟩
  generalize 0 - x = y
  interval_cases n <;> rfl

set_option backward.isDefEq.respectTransparency false in
theorem pay15_apply (s : FVec Ideal S1024x384 .f32) (z : IVec S16384x6144 32) (r : Fin 16384) (q : Fin 6144) (h : (z (ix2 r q)).toNat < 16) :
    k0_pay15 (F := Ideal) s z (ix2 r q) = dec (z (ix2 r q)) * s (ix2 ⟨r / 16, by omega⟩ ⟨q / 16, by omega⟩) := by
  rw [← bitDec_eq _ h]
  unfold bitMag
  pointwise [k0_pay15]

set_option backward.isDefEq.respectTransparency false in
theorem pay1_apply (st : FVec Ideal S1x1 .f32) (wd : FVec Ideal S16384x6144 .bf16) (x : Vec Ideal S1x256x6144 .bf16) (i : Fin 256) (j : Fin 16384) :
    k0_pay1 (F := Ideal) st wd x (ix3 0 i j) = (∑ k : Fin 6144, x (ix3 0 i k) * wd (ix2 j k)) * st (ix2 0 0) := by
  pointwise [k0_pay1]

set_option backward.isDefEq.respectTransparency false in
theorem pay2_apply (s : Vec Ideal S1x1 .f32) (i j : Fin 1) : k0_pay2 (F := Ideal) s (ix2 i j) = s (ix2 i j) := by
  pointwise [k0_pay2]

set_option backward.isDefEq.respectTransparency false in
theorem pay3_apply (s : Vec Ideal S1024x384 .f32) (i : Fin 1024) (j : Fin 384) :
    k0_pay3 (F := Ideal) s (ix2 i j) = s (ix2 i j) := by
  pointwise [k0_pay3]

set_option backward.isDefEq.respectTransparency false in
theorem pay4_apply (s : Vec Ideal S1024x384 .f32) (i : Fin 1024) (j : Fin 384) :
    k0_pay4 (F := Ideal) s (ix2 i j) = s (ix2 i j) := by
  pointwise [k0_pay4, k0_pay3]

/-! ## The host lines before it -/

theorem drop_iff (i : S1024x16x384x16.Idx) (b : Fin 1024) (k : Fin 384) :
    reducesTo_S1024x16x384x16_S1024x384_d1_3.drop i = ix2 b k ↔ i 0 = b ∧ i 2 = k := by
  constructor
  · intro h
    exact ⟨congrFun h 0, congrFun h 1⟩
  · rintro ⟨rfl, rfl⟩
    funext a
    match a with
    | ⟨0, _⟩ => rfl
    | ⟨1, _⟩ => rfl

/-- The block maxima as the host computes them. -/
abbrev bamH (w : Vec Ideal S16384x6144 .bf16) : FVec Ideal S1024x384 .f32 :=
  Host.reduce (FloatOps.maximumf (F := Ideal) (φ := .f32)) (shapeCast S1024x16x384x16 (Host.absf (F := Ideal) (φ := .f32) (extf .f32 (φ := .bf16) w bitsLt_bf16_f32)) shapeCasts_S16384x6144_S1024x16x384x16 : FVec Ideal S1024x16x384x16 .f32) (constant (F := Ideal) S_ .f32 0xFF800000#32) reducesTo_S1024x16x384x16_S1024x384_d1_3 h_S_

set_option backward.isDefEq.respectTransparency false in
theorem bamH_fold (w : Vec Ideal S16384x6144 .bf16) (b : Fin 1024) (k : Fin 384) :
    bamH w (ix2 b k) = Finset.fold max (kf 0xFF800000#32)
      (fun x : S1024x16x384x16.Idx => mag (w (ix2 ⟨(x 0).val * 16 + (x 1).val, by have h0 : (x 0).val < 1024 := (x 0).isLt; have h1 : (x 1).val < 16 := (x 1).isLt; omega⟩ ⟨(x 2).val * 16 + (x 3).val, by have h0 : (x 2).val < 384 := (x 2).isLt; have h1 : (x 3).val < 16 := (x 3).isLt; omega⟩)))
      {i | reducesTo_S1024x16x384x16_S1024x384_d1_3.drop i = ix2 b k} := by
  unfold bamH
  pointwise []
  rfl

theorem bamH_apply (w : Vec Ideal S16384x6144 .bf16) (b : Fin 1024) (k : Fin 384) : bamH w (ix2 b k) = bam (oW w) b k := by
  rw [bamH_fold]
  refine eq_of_forall_ge_iff fun z => ?_
  rw [fold_max_le, bam_le_iff]
  constructor
  · intro h i hi j hj
    have := h (ix4 b ⟨i, hi⟩ k ⟨j, hj⟩) (by rw [Finset.mem_filter, drop_iff]; exact ⟨Finset.mem_univ _, rfl, rfl⟩)
    refine le_of_eq_of_le (congrArg mag ?_) this
    refine Eq.trans ?_ (oW_apply w _ _)
    congr 1
    · show 16 * b.val + i = b.val * 16 + i; omega
    · show 16 * k.val + j = k.val * 16 + j; omega
  · intro h x hx
    rw [Finset.mem_filter, drop_iff] at hx
    obtain ⟨-, rfl, rfl⟩ := hx
    refine le_of_eq_of_le (congrArg mag ?_) (h (x 1).val (x 1).isLt (x 3).val (x 3).isLt)
    refine Eq.trans (oW_apply w _ _).symm ?_
    congr 1
    · show (x 0).val * 16 + (x 1).val = 16 * (x 0).val + (x 1).val; omega
    · show (x 2).val * 16 + (x 3).val = 16 * (x 2).val + (x 3).val; omega

/-- The tensor scale as the host computes it. -/
abbrev stH (h : Vec Ideal S24 .f32) : FVec Ideal S_ .f32 :=
  Host.divf (F := Ideal) (φ := .f32) (Host.reduce (FloatOps.maximumf (F := Ideal) (φ := .f32)) h (constant (F := Ideal) S_ .f32 0xFF800000#32) reducesTo_S24_S_d0 h_S_) (constant (F := Ideal) S_ .f32 0x45280000#32)

set_option backward.isDefEq.respectTransparency false in
theorem stH_one (h : Vec Ideal S24 .f32) (y : S1.Idx) : (shapeCast S1 (stH h) shapeCasts_S_S1 : FVec Ideal S1 .f32) y = oSt h := by
  unfold stH oSt stOf
  pointwise []

set_option backward.isDefEq.respectTransparency false in
theorem stH_cell (h : Vec Ideal S24 .f32) (i j : Fin 1) : (shapeCast S1x1 (stH h) shapeCasts_S_S1x1 : FVec Ideal S1x1 .f32) (ix2 i j) = oSt h := by
  unfold stH oSt stOf
  pointwise []

/-- The block scales as the host computes them. -/
abbrev sH (w : Vec Ideal S16384x6144 .bf16) (h : Vec Ideal S24 .f32) : FVec Ideal S1024x384 .f32 :=
  minimumf (F := Ideal) (φ := .f32) (Host.divf (F := Ideal) (φ := .f32) (bamH w) (broadcastInDim S1024x384 ![] bcast_S_S1024x384 (mulf (F := Ideal) (φ := .f32) (stH h) (constant (F := Ideal) S_ .f32 0x40C00000#32))))
    (broadcastInDim S1024x384 ![] bcast_S_S1024x384 (constant (F := Ideal) S_ .f32 0x43E00000#32))

set_option backward.isDefEq.respectTransparency false in
theorem sH_gen (B : FVec Ideal S1024x384 .f32) (h : Vec Ideal S24 .f32) (b : Fin 1024) (k : Fin 384) :
    minimumf (F := Ideal) (φ := .f32) (Host.divf (F := Ideal) (φ := .f32) B (broadcastInDim S1024x384 ![] bcast_S_S1024x384 (mulf (F := Ideal) (φ := .f32) (stH h) (constant (F := Ideal) S_ .f32 0x40C00000#32))))
    (broadcastInDim S1024x384 ![] bcast_S_S1024x384 (constant (F := Ideal) S_ .f32 0x43E00000#32)) (ix2 b k) = scOf (oSt h) (B (ix2 b k)) := by
  unfold stH scOf oSt stOf
  pointwise []

theorem sH_apply (w : Vec Ideal S16384x6144 .bf16) (h : Vec Ideal S24 .f32) (b : Fin 1024) (k : Fin 384) : sH w h (ix2 b k) = sB (oSt h) (oW w) b k := by
  unfold sH sB
  rw [sH_gen, bamH_apply]

/-- The largest block maximum as the host computes it. -/
abbrev wmH (w : Vec Ideal S16384x6144 .bf16) : FVec Ideal S1 .f32 :=
  shapeCast S1 (Host.reduce (FloatOps.maximumf (F := Ideal) (φ := .f32)) (bamH w) (constant (F := Ideal) S_ .f32 0xFF800000#32) reducesTo_S1024x384_S_d0_1 h_S_) shapeCasts_S_S1

set_option backward.isDefEq.respectTransparency false in
theorem wmH_gen (B : FVec Ideal S1024x384 .f32) (y : S1.Idx) :
    (shapeCast S1 (Host.reduce (FloatOps.maximumf (F := Ideal) (φ := .f32)) B (constant (F := Ideal) S_ .f32 0xFF800000#32) reducesTo_S1024x384_S_d0_1 h_S_) shapeCasts_S_S1 : FVec Ideal S1 .f32) y
      = Finset.univ.fold max (kf 0xFF800000#32) (fun k : Fin 1024 × Fin 384 => B (ix2 k.1 k.2)) := by
  pointwise []

theorem wmH_apply (w : Vec Ideal S16384x6144 .bf16) (y : S1.Idx) : wmH w y = wmax (oW w) := by
  unfold wmH
  rw [wmH_gen]
  refine eq_of_forall_ge_iff fun z => ?_
  rw [fold_max_le, wmax_le]
  simp only [bamH_apply]
  exact ⟨fun h b hb k hk => h (⟨b, hb⟩, ⟨k, hk⟩) (Finset.mem_univ _), fun h x _ => h x.1 x.1.isLt x.2 x.2.isLt⟩

/-! ## The kernel's results on those -/

variable (x : Vec Ideal S1x256x6144 .bf16) (w : Vec Ideal S16384x6144 .bf16) (h : Vec Ideal S24 .f32)

/-- The tensor scale as its one-cell matrix. -/
abbrev stC : Vec Ideal S1x1 .f32 := shapeCast S1x1 (stH h) shapeCasts_S_S1x1

theorem codes_eq (r : Fin 16384) (q : Fin 6144) : codes (stC h) (sH w h) w (ix2 r q) = cB (oSt h) (oW w) r q := by
  rw [codes_apply]
  unfold cB vB
  unfold stC
  rw [oW_apply, sH_apply, stH_cell]

end Cert.Proof.ReferenceIdealValue

end
-- ==== Proof.S.RFinal.lean ====
module

public import proofs.«01_k».proof.Proof.Gen.ReferenceIdeal
public import proofs.«01_k».proof.Proof.Gen.ReferenceIdeal.Skeleton
public import proofs.«01_k».proof.Proof.Gen.ReferenceIdeal.Frame
public import proofs.«01_k».proof.Proof.Gen.ReferenceIdeal.Points
public import proofs.«01_k».proof.Proof.S.Spec
public import proofs.«01_k».proof.Proof.S.RVals
public import proofs.«01_k».proof.Proof.S.Outputs
public import Idealize.ShloMosaic.Lib.Pipeline.Value
public import Idealize.ShloMosaic.Lib.StableHlo.Run
public import Idealize.ShloMosaic.Lib.Pointwise
public import Idealize.ShloMosaic.Lib.Tactic

@[expose] public section

/-! The reference's results. -/

set_option maxRecDepth 16384

noncomputable section

namespace Cert.Proof.ReferenceIdealValue

open Cert.ReferenceIdeal Cert.ReferenceIdeal.Gen Cert.Proof.Spec
open Idealize.ShloMosaic Idealize.ShloMosaic.TcCoe Idealize.ShloMosaic.Tactic
open Idealize.SL Idealize.SL.RA Idealize.SL.BI
open Idealize.ShloMosaic.Pipeline (Dat Cfg Window)

/-! ## The windows' blocks are their arrays -/

theorem index0 : ∀ t : Fin cfg0.N, win0_0.index t 0 = 0 ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 ∧ win0_2.index t 2 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 ∧ win0_4.index t 2 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel

variable (m : (ℓ : Loc nD τ sig) → Buf (Elt Ideal) ℓ) (ρ : Dev nD → PrngReg)

theorem blk0 (c : Dev nD) (t : Fin cfg0.N) : iblk m c 0 t = (V m c main_v14 : Vec Ideal S1x1 .f32) := by
  funext y
  unfold iblk
  rw [View.read_apply]
  show (V m c main_v14 : Vec Ideal S1x1 .f32) _ = V m c main_v14 y
  congr 1
  funext a
  apply Fin.ext
  match a with
  | ⟨0, _⟩ => show win0_0.index t 0 * 1 + 1 * (y 0).val = (y 0).val; rw [(index0 t).1]; omega
  | ⟨1, _⟩ => show win0_0.index t 1 * 1 + 1 * (y 1).val = (y 1).val; rw [(index0 t).2]; omega

theorem blk1 (c : Dev nD) (t : Fin cfg0.N) : iblk m c 1 t = (V m c main_v13 : Vec Ideal S1024x384 .f32) := by
  funext y
  unfold iblk
  rw [View.read_apply]
  show (V m c main_v13 : Vec Ideal S1024x384 .f32) _ = V m c main_v13 y
  congr 1
  funext a
  apply Fin.ext
  match a with
  | ⟨0, _⟩ => show win0_1.index t 0 * 1024 + 1 * (y 0).val = (y 0).val; rw [(index1 t).1]; omega
  | ⟨1, _⟩ => show win0_1.index t 1 * 384 + 1 * (y 1).val = (y 1).val; rw [(index1 t).2]; omega

theorem blk2 (c : Dev nD) (t : Fin cfg0.N) : iblk m c 2 t = (V m c main_arg0 : Vec Ideal S1x256x6144 .bf16) := by
  funext y
  unfold iblk
  rw [View.read_apply]
  show (V m c main_arg0 : Vec Ideal S1x256x6144 .bf16) _ = V m c main_arg0 y
  congr 1
  funext a
  apply Fin.ext
  match a with
  | ⟨0, _⟩ => show win0_2.index t 0 * 1 + 1 * (y 0).val = (y 0).val; rw [(index2 t).1]; omega
  | ⟨1, _⟩ => show win0_2.index t 1 * 256 + 1 * (y 1).val = (y 1).val; rw [(index2 t).2.1]; omega
  | ⟨2, _⟩ => show win0_2.index t 2 * 6144 + 1 * (y 2).val = (y 2).val; rw [(index2 t).2.2]; omega

theorem blk3 (c : Dev nD) (t : Fin cfg0.N) : iblk m c 3 t = (V m c main_arg1 : Vec Ideal S16384x6144 .bf16) := by
  funext y
  unfold iblk
  rw [View.read_apply]
  show (V m c main_arg1 : Vec Ideal S16384x6144 .bf16) _ = V m c main_arg1 y
  congr 1
  funext a
  apply Fin.ext
  match a with
  | ⟨0, _⟩ => show win0_3.index t 0 * 16384 + 1 * (y 0).val = (y 0).val; rw [(index3 t).1]; omega
  | ⟨1, _⟩ => show win0_3.index t 1 * 6144 + 1 * (y 1).val = (y 1).val; rw [(index3 t).2]; omega

/-! ## What the host lines leave in the windows' arrays -/

abbrev aX (c : Dev nD) : Vec Ideal S1x256x6144 .bf16 := m ((c : Thread nD τ).loc main_arg0)
abbrev aW (c : Dev nD) : Vec Ideal S16384x6144 .bf16 := m ((c : Thread nD τ).loc main_arg1)
abbrev aH (c : Dev nD) : Vec Ideal S24 .f32 := m ((c : Thread nD τ).loc main_arg2)

theorem V_v14 (c : Dev nD) : V m c main_v14 = stC (aH m c) := by
  show StableHlo.after hostOps0 (fun b => m (c, b)) main_v14 = _
  after_results
  rfl

theorem V_v13 (c : Dev nD) : V m c main_v13 = sH (aW m c) (aH m c) := by
  show StableHlo.after hostOps0 (fun b => m (c, b)) main_v13 = _
  after_results
  rfl

theorem V_v6 (c : Dev nD) : V m c main_v6 = (shapeCast S1 (stH (aH m c)) shapeCasts_S_S1 : FVec Ideal S1 .f32) := by
  show StableHlo.after hostOps0 (fun b => m (c, b)) main_v6 = _
  after_results
  rfl

theorem V_v8 (c : Dev nD) : V m c main_v8 = wmH (aW m c) := by
  show StableHlo.after hostOps0 (fun b => m (c, b)) main_v8 = _
  after_results
  rfl

/-! ## The result arrays -/

theorem hz2 : (![0, 0] : Fin 2 → ℕ) = fun _ => 0 := by decide
theorem hz3 : (![0, 0, 0] : Fin 3 → ℕ) = fun _ => 0 := by decide

/-- The blocks the body reads, put in: the arguments and what the host lines make of them. -/
theorem out4 (x : Vec Ideal S1x256x6144 .bf16) (w : Vec Ideal S16384x6144 .bf16) (h : Vec Ideal S24 .f32) : out0_4 (F := Ideal) (stC h) (sH w h) x w = oY x w h := by
  unfold_out out0_4
  rw [View.canon_unit_zero hz3]
  simp only [r0_0, r0_1, r0_2, r0_5, View.ld_unit_zero (S := S1x1) hz2, View.ld_unit_zero (S := S1024x384) hz2, View.ld_unit_zero (S := S16384x6144) hz2, View.ld_unit_zero (S := S1x256x6144) hz3]
  funext y
  refine (congrArg _ (idx3_of y ⟨0, by omega⟩ (y 1) (y 2) (by have h0 : (y 0).val < 1 := (y 0).isLt; show (y 0).val = 0; omega) rfl rfl)).trans ((pay1_apply _ _ _ _ _).trans ?_)
  unfold oY
  rw [pay2_apply]
  unfold stC
  rw [stH_cell]
  refine congrArg (· * oSt h) (Finset.sum_congr rfl fun k _ => congrArg _ ?_)
  have e : codes (stC h) (sH w h) w (ix2 (y 2) k) = cB (oSt h) (oW w) (y 2).val k.val := codes_eq w h (y 2) k
  refine (pay15_apply _ (codes (stC h) (sH w h) w) (y 2) k (by rw [e]; exact code_lt _)).trans ?_
  rw [e, pay4_apply, sH_apply]
  rfl

theorem out5 (x : Vec Ideal S1x256x6144 .bf16) (w : Vec Ideal S16384x6144 .bf16) (h : Vec Ideal S24 .f32) : out0_5 (F := Ideal) (stC h) (sH w h) x w = oK w h := by
  unfold_out out0_5
  rw [View.canon_unit_zero hz2]
  simp only [r0_0, r0_1, r0_2, r0_5, View.ld_unit_zero (S := S1x1) hz2, View.ld_unit_zero (S := S1024x384) hz2, View.ld_unit_zero (S := S16384x6144) hz2, View.ld_unit_zero (S := S1x256x6144) hz3]
  funext y
  refine (congrArg _ (idx2_of y (y 0) (y 1) rfl rfl)).trans ((pay13_apply _ _ _ _ _ _ _ _ _).trans ?_)
  unfold oK
  refine congrArg₂ pack ((codes_eq w h _ _).trans ?_) ((codes_eq w h _ _).trans ?_)
  · dsimp only; rw [mul_comm]
  · dsimp only; rw [mul_comm]

theorem out6 (x : Vec Ideal S1x256x6144 .bf16) (w : Vec Ideal S16384x6144 .bf16) (h : Vec Ideal S24 .f32) : out0_6 (F := Ideal) (stC h) (sH w h) x w = oN w h := by
  unfold_out out0_6
  rw [View.canon_unit_zero hz2]
  simp only [r0_0, r0_1, r0_2, r0_5, View.ld_unit_zero (S := S1x1) hz2, View.ld_unit_zero (S := S1024x384) hz2, View.ld_unit_zero (S := S16384x6144) hz2, View.ld_unit_zero (S := S1x256x6144) hz3]
  funext y
  refine (congrArg _ (idx2_of y (y 0) (y 1) rfl rfl)).trans ((pay14_apply _ _ _ _ _ _ _ _ _).trans ?_)
  unfold oN
  refine congrArg₂ pack ((codes_eq w h _ _).trans ?_) ((codes_eq w h _ _).trans ?_)
  · dsimp only; rw [mul_comm]
  · dsimp only; rw [mul_comm]

theorem out7 (x : Vec Ideal S1x256x6144 .bf16) (w : Vec Ideal S16384x6144 .bf16) (h : Vec Ideal S24 .f32) : out0_7 (F := Ideal) (stC h) (sH w h) x w = oS w h := by
  unfold_out out0_7
  rw [View.canon_unit_zero hz2]
  simp only [r0_0, r0_1, r0_2, r0_5, View.ld_unit_zero (S := S1x1) hz2, View.ld_unit_zero (S := S1024x384) hz2, View.ld_unit_zero (S := S16384x6144) hz2, View.ld_unit_zero (S := S1x256x6144) hz3]
  funext y
  refine (congrArg _ (idx2_of y (y 0) (y 1) rfl rfl)).trans ((pay3_apply _ _ _).trans (sH_apply w h _ _))

theorem final4 (c : Dev nD) : (dats m 0 c).arrAt 4 cfg0.N = (oY (aX m c) (aW m c) (aH m c) : Vec Ideal S1x256x16384 .bf16) :=
  (dats m 0 c).arrAt_eq_of_cover 4 (oY (aX m c) (aW m c) (aH m c) : Vec Ideal S1x256x16384 .bf16) (fun t _ => by
    show (cfg0.win 4).cut (grid0.coords t) ((dats m 0 c).after 4 t) = _
    rw [after0_4, blk0, blk1, blk2, blk3, V_v14, V_v13, V_main_arg0, V_main_arg1, out4]
    funext y
    rw [View.read_apply]
    show (oY (aX m c) (aW m c) (aH m c) : Vec Ideal S1x256x16384 .bf16) y = (oY (aX m c) (aW m c) (aH m c) : Vec Ideal S1x256x16384 .bf16) _
    congr 1
    funext a
    apply Fin.ext
    match a with
    | ⟨0, _⟩ => show (y 0).val = win0_4.index t 0 * 1 + 1 * (y 0).val; rw [(index4 t).1]; omega
    | ⟨1, _⟩ => show (y 1).val = win0_4.index t 1 * 256 + 1 * (y 1).val; rw [(index4 t).2.1]; omega
    | ⟨2, _⟩ => show (y 2).val = win0_4.index t 2 * 16384 + 1 * (y 2).val; rw [(index4 t).2.2]; omega) fun i => by
    have h0 : (i 0).val < 1 := (i 0).isLt
    have h1 : (i 1).val < 256 := (i 1).isLt
    have h2 : (i 2).val < 16384 := (i 2).isLt
    obtain ⟨t, ht⟩ : ∃ t : Fin cfg0.N, t.val = 0 := ⟨⟨0, by decide⟩, rfl⟩
    refine ⟨t, flush0_4 t, ?_⟩
    show i ∈ ((View.whole main_v15_0).slice (win0_4.rect t)).set
    rw [View.set_slice_whole, Rect.mem_set_unit]
    intro a
    match a with
    | ⟨0, _⟩ => show win0_4.index t 0 * 1 ≤ (i 0).val ∧ (i 0).val < win0_4.index t 0 * 1 + 1
                rw [(index4 t).1]; omega
    | ⟨1, _⟩ => show win0_4.index t 1 * 256 ≤ (i 1).val ∧ (i 1).val < win0_4.index t 1 * 256 + 256
                rw [(index4 t).2.1]; omega
    | ⟨2, _⟩ => show win0_4.index t 2 * 16384 ≤ (i 2).val ∧ (i 2).val < win0_4.index t 2 * 16384 + 16384
                rw [(index4 t).2.2]; omega

theorem final5 (c : Dev nD) : (dats m 0 c).arrAt 5 cfg0.N = (oK (aW m c) (aH m c) : Vec Ideal S16384x3072 .i8) :=
  (dats m 0 c).arrAt_eq_of_cover 5 (oK (aW m c) (aH m c) : Vec Ideal S16384x3072 .i8) (fun t _ => by
    show (cfg0.win 5).cut (grid0.coords t) ((dats m 0 c).after 5 t) = _
    rw [after0_5, blk0, blk1, blk2, blk3, V_v14, V_v13, V_main_arg0, V_main_arg1, out5]
    funext y
    rw [View.read_apply]
    show (oK (aW m c) (aH m c) : Vec Ideal S16384x3072 .i8) y = (oK (aW m c) (aH m c) : Vec Ideal S16384x3072 .i8) _
    congr 1
    funext a
    apply Fin.ext
    match a with
    | ⟨0, _⟩ => show (y 0).val = win0_5.index t 0 * 16384 + 1 * (y 0).val; rw [(index5 t).1]; omega
    | ⟨1, _⟩ => show (y 1).val = win0_5.index t 1 * 3072 + 1 * (y 1).val; rw [(index5 t).2]; omega) fun i => by
    have h0 : (i 0).val < 16384 := (i 0).isLt
    have h1 : (i 1).val < 3072 := (i 1).isLt
    obtain ⟨t, ht⟩ : ∃ t : Fin cfg0.N, t.val = 0 := ⟨⟨0, by decide⟩, rfl⟩
    refine ⟨t, flush0_5 t, ?_⟩
    show i ∈ ((View.whole main_v15_1).slice (win0_5.rect t)).set
    rw [View.set_slice_whole, Rect.mem_set_unit]
    intro a
    match a with
    | ⟨0, _⟩ => show win0_5.index t 0 * 16384 ≤ (i 0).val ∧ (i 0).val < win0_5.index t 0 * 16384 + 16384
                rw [(index5 t).1]; omega
    | ⟨1, _⟩ => show win0_5.index t 1 * 3072 ≤ (i 1).val ∧ (i 1).val < win0_5.index t 1 * 3072 + 3072
                rw [(index5 t).2]; omega

theorem final6 (c : Dev nD) : (dats m 0 c).arrAt 6 cfg0.N = (oN (aW m c) (aH m c) : Vec Ideal S6144x8192 .i8) :=
  (dats m 0 c).arrAt_eq_of_cover 6 (oN (aW m c) (aH m c) : Vec Ideal S6144x8192 .i8) (fun t _ => by
    show (cfg0.win 6).cut (grid0.coords t) ((dats m 0 c).after 6 t) = _
    rw [after0_6, blk0, blk1, blk2, blk3, V_v14, V_v13, V_main_arg0, V_main_arg1, out6]
    funext y
    rw [View.read_apply]
    show (oN (aW m c) (aH m c) : Vec Ideal S6144x8192 .i8) y = (oN (aW m c) (aH m c) : Vec Ideal S6144x8192 .i8) _
    congr 1
    funext a
    apply Fin.ext
    match a with
    | ⟨0, _⟩ => show (y 0).val = win0_6.index t 0 * 6144 + 1 * (y 0).val; rw [(index6 t).1]; omega
    | ⟨1, _⟩ => show (y 1).val = win0_6.index t 1 * 8192 + 1 * (y 1).val; rw [(index6 t).2]; omega) fun i => by
    have h0 : (i 0).val < 6144 := (i 0).isLt
    have h1 : (i 1).val < 8192 := (i 1).isLt
    obtain ⟨t, ht⟩ : ∃ t : Fin cfg0.N, t.val = 0 := ⟨⟨0, by decide⟩, rfl⟩
    refine ⟨t, flush0_6 t, ?_⟩
    show i ∈ ((View.whole main_v15_2).slice (win0_6.rect t)).set
    rw [View.set_slice_whole, Rect.mem_set_unit]
    intro a
    match a with
    | ⟨0, _⟩ => show win0_6.index t 0 * 6144 ≤ (i 0).val ∧ (i 0).val < win0_6.index t 0 * 6144 + 6144
                rw [(index6 t).1]; omega
    | ⟨1, _⟩ => show win0_6.index t 1 * 8192 ≤ (i 1).val ∧ (i 1).val < win0_6.index t 1 * 8192 + 8192
                rw [(index6 t).2]; omega

theorem final7 (c : Dev nD) : (dats m 0 c).arrAt 7 cfg0.N = (oS (aW m c) (aH m c) : Vec Ideal S1024x384 .fp8e4m3) :=
  (dats m 0 c).arrAt_eq_of_cover 7 (oS (aW m c) (aH m c) : Vec Ideal S1024x384 .fp8e4m3) (fun t _ => by
    show (cfg0.win 7).cut (grid0.coords t) ((dats m 0 c).after 7 t) = _
    rw [after0_7, blk0, blk1, blk2, blk3, V_v14, V_v13, V_main_arg0, V_main_arg1, out7]
    funext y
    rw [View.read_apply]
    show (oS (aW m c) (aH m c) : Vec Ideal S1024x384 .fp8e4m3) y = (oS (aW m c) (aH m c) : Vec Ideal S1024x384 .fp8e4m3) _
    congr 1
    funext a
    apply Fin.ext
    match a with
    | ⟨0, _⟩ => show (y 0).val = win0_7.index t 0 * 1024 + 1 * (y 0).val; rw [(index7 t).1]; omega
    | ⟨1, _⟩ => show (y 1).val = win0_7.index t 1 * 384 + 1 * (y 1).val; rw [(index7 t).2]; omega) fun i => by
    have h0 : (i 0).val < 1024 := (i 0).isLt
    have h1 : (i 1).val < 384 := (i 1).isLt
    obtain ⟨t, ht⟩ : ∃ t : Fin cfg0.N, t.val = 0 := ⟨⟨0, by decide⟩, rfl⟩
    refine ⟨t, flush0_7 t, ?_⟩
    show i ∈ ((View.whole main_v15_3).slice (win0_7.rect t)).set
    rw [View.set_slice_whole, Rect.mem_set_unit]
    intro a
    match a with
    | ⟨0, _⟩ => show win0_7.index t 0 * 1024 ≤ (i 0).val ∧ (i 0).val < win0_7.index t 0 * 1024 + 1024
                rw [(index7 t).1]; omega
    | ⟨1, _⟩ => show win0_7.index t 1 * 384 ≤ (i 1).val ∧ (i 1).val < win0_7.index t 1 * 384 + 384
                rw [(index7 t).2]; omega

/-- Every run ends with the six results at their functions of the arguments, and the arguments unchanged. -/
theorem run : θ_run defs (onTc (τ := τ) (main (F := Ideal))) ⟨m, fun _ => 0, ρ⟩ (fun r => ∀ c : Dev nD,
      r.2.mem ((c.tc : Thread nD τ).loc main_v15_0) = (oY (aX m c) (aW m c) (aH m c) : Vec Ideal S1x256x16384 .bf16)
      ∧ r.2.mem ((c.tc : Thread nD τ).loc main_v15_1) = (oK (aW m c) (aH m c) : Vec Ideal S16384x3072 .i8)
      ∧ r.2.mem ((c.tc : Thread nD τ).loc main_v15_2) = (oN (aW m c) (aH m c) : Vec Ideal S6144x8192 .i8)
      ∧ r.2.mem ((c.tc : Thread nD τ).loc main_v15_3) = (oS (aW m c) (aH m c) : Vec Ideal S1024x384 .fp8e4m3)
      ∧ r.2.mem ((c.tc : Thread nD τ).loc main_v6) = ((fun _ => oSt (aH m c)) : Vec Ideal S1 .f32)
      ∧ r.2.mem ((c.tc : Thread nD τ).loc main_v8) = ((fun _ => wmax (oW (aW m c))) : Vec Ideal S1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ?_) (θ_run_and (run_main m ρ) (frame_of m ρ (dats m) (A_eq m) (run_main m ρ)))
  exact ⟨((h.1 c).1 4).trans (final4 m c), ((h.1 c).1 5).trans (final5 m c), ((h.1 c).1 6).trans (final6 m c), ((h.1 c).1 7).trans (final7 m c),
    ((h.1 c).2 main_v6 (Pipeline.mem_restRefs_of main_v6 (by decide) (by decide))).trans ((V_v6 m c).trans (funext fun y => stH_one (aH m c) y)),
    ((h.1 c).2 main_v8 (Pipeline.mem_restRefs_of main_v8 (by decide) (by decide))).trans ((V_v8 m c).trans (funext fun y => wmH_apply (aW m c) y)),
    h.2 c⟩

end Cert.Proof.ReferenceIdealValue

end
-- ==== Proof.lean ====
module

public import proofs.«01_k».proof.Defs
public import proofs.«01_k».proof.Proof.S.FrameKernel
public import proofs.«01_k».proof.Proof.S.FrameKernelIdeal
public import proofs.«01_k».proof.Proof.Gen.ReferenceIdeal.Frame
public import proofs.«01_k».proof.Proof.S.KFinal2
public import proofs.«01_k».proof.Proof.S.RFinal
public import Idealize.ShloMosaic.Lib.Bf16Pair
public import Idealize.ShloMosaic.Adequacy
public import Idealize.ShloMosaic.Init

@[expose] public section

noncomputable section

namespace Cert.Proof

open Idealize.ShloMosaic Idealize.SL.Sem

theorem quiescent_Kernel : Cert.quiescent_Kernel (hKernel := Cert.Kernel.Gen.facts) := fun m ρ _ => Cert.Proof.Kernel.frame (F := Bits) m ρ

theorem quiescent_KernelIdeal : Cert.quiescent_KernelIdeal (hKernelIdeal := Cert.KernelIdeal.Gen.facts) := fun m ρ _ => Cert.Proof.KernelIdeal.frame (F := Ideal) m ρ

theorem quiescent_ReferenceIdeal : Cert.quiescent_ReferenceIdeal (hReferenceIdeal := Cert.ReferenceIdeal.Gen.facts) := fun m ρ _ => Cert.ReferenceIdeal.Gen.frame (F := Ideal) m ρ

theorem preserves : Cert.preserves_Kernel_KernelIdeal :=
  ⟨IdealRules.bf16_pair.statement Cert.KernelIdeal.S8x2x128 Cert.KernelIdeal.S8x1x128,
    IdealRules.bf16_pair.statement Cert.KernelIdeal.S16x128 Cert.KernelIdeal.S8x128⟩

theorem algebraic : Cert.algebraic_KernelIdeal_ReferenceIdeal (hKernelIdeal := Cert.KernelIdeal.Gen.facts) (hReferenceIdeal := Cert.ReferenceIdeal.Gen.facts) := by
  intro m g m' g' _ hm
  refine ⟨_, _, _, _, _, _, KernelIdealValue.run m g, ?_⟩
  refine (θ_run _ _ _).mono (fun r h c => ?_) (ReferenceIdealValue.run m' g')
  have h' := h c
  have e0 : ReferenceIdealValue.aX m' c = KernelIdealValue.aX m c := (hm c).1
  have e1 : ReferenceIdealValue.aW m' c = KernelIdealValue.aW m c := (hm c).2.1
  have e2 : ReferenceIdealValue.aH m' c = KernelIdealValue.aH m c := (hm c).2.2
  rw [e0, e1, e2] at h'
  exact h'

theorem claim : Cert.Claim := ⟨Cert.Kernel.Gen.facts, Cert.KernelIdeal.Gen.facts, Cert.ReferenceIdeal.Gen.facts, quiescent_Kernel, quiescent_KernelIdeal, quiescent_ReferenceIdeal, preserves, algebraic⟩

end Cert.Proof

end
